-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S2048x2048 : Shape := ⟨2, ![2048, 2048]⟩
abbrev S3x7 : Shape := ⟨2, ![3, 7]⟩
abbrev S_ : Shape := ⟨0, ![]⟩
abbrev S1x1 : Shape := ⟨2, ![1, 1]⟩
abbrev S96x2048 : Shape := ⟨2, ![96, 2048]⟩
abbrev S80x2048 : Shape := ⟨2, ![80, 2048]⟩
abbrev S256x256 : Shape := ⟨2, ![256, 256]⟩
abbrev S96x256 : Shape := ⟨2, ![96, 256]⟩
abbrev S80x256 : Shape := ⟨2, ![80, 256]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048x256, .f32⟩
  | .hbm, ⟨2, _⟩ => ⟨S2048x256, .f32⟩
  | .local _ .vmem, ⟨0, _⟩ => ⟨S256x2048, .f32⟩
  | .local _ .vmem, ⟨1, _⟩ => ⟨S2048x256, .f32⟩
  | .local _ .vmem, ⟨2, _⟩ => ⟨S2048x256, .f32⟩
  | .local _ .vmem, ⟨3, _⟩ => ⟨S2048x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c7_i32 : BitVec 32 := 7#32
  let c5_i32_4 : BitVec 32 := 5#32
  let v11 : BitVec 1 := Scalar.cmpi .eq v2 c5_i32_4
  let c4_i32_5 : BitVec 32 := 4#32
  let c4_i32 : BitVec 32 := 4#32
  let v9 : BitVec 1 := Scalar.cmpi .eq v2 c4_i32
  let c5_i32 : BitVec 32 := 5#32
  let c3_i32_2 : BitVec 32 := 3#32
  let v7 : BitVec 1 := Scalar.cmpi .eq v2 c3_i32_2
  let c2_i32_3 : BitVec 32 := 2#32
  let c2_i32 : BitVec 32 := 2#32
  let v5 : BitVec 1 := Scalar.cmpi .eq v2 c2_i32
  let c3_i32 : BitVec 32 := 3#32
  let c1_i32_0 : BitVec 32 := 1#32
  let v3 : BitVec 1 := Scalar.cmpi .eq v2 c1_i32_0
  let c0_i32 : BitVec 32 := 0#32
  let c1_i32_1 : BitVec 32 := 1#32
  let v4 : BitVec 32 := Scalar.select v3 c0_i32 c1_i32_1
  let v6 : BitVec 32 := Scalar.select v5 c3_i32 v4
  let v8 : BitVec 32 := Scalar.select v7 c2_i32_3 v6
  let v10 : BitVec 32 := Scalar.select v9 c5_i32 v8
  let v12 : BitVec 32 := Scalar.select v11 c4_i32_5 v10
  let v14 : BitVec 32 := Scalar.select v13 c7_i32 v12
  let v16 : BitVec 32 := Scalar.select v15 c6_i32_7 v14
  let c1_i32_39 : BitVec 32 := 1#32
  let v46 : BitVec 32 := Scalar.muli v16 c1_i32_39
  let v47 : BitVec 32 := Scalar.addi c0_i32_40 v46
  v47.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c7_i32_16 : BitVec 32 := 7#32
  let c3_i32_13 : BitVec 32 := 3#32
  let v21 : BitVec 1 := Scalar.cmpi .eq v2 c3_i32_13
  let c0_i32_14 : BitVec 32 := 0#32
  let c2_i32_11 : BitVec 32 := 2#32
  let v19 : BitVec 1 := Scalar.cmpi .eq v2 c2_i32_11
  let c1_i32_12 : BitVec 32 := 1#32
  let c1_i32_8 : BitVec 32 := 1#32
  let v17 : BitVec 1 := Scalar.cmpi .eq v2 c1_i32_8
  let c2_i32_9 : BitVec 32 := 2#32
  let c3_i32_10 : BitVec 32 := 3#32
  let v18 : BitVec 32 := Scalar.select v17 c2_i32_9 c3_i32_10
  let v20 : BitVec 32 := Scalar.select v19 c1_i32_12 v18
  let v22 : BitVec 32 := Scalar.select v21 c0_i32_14 v20
  let v24 : BitVec 32 := Scalar.select v23 c7_i32_16 v22
  let v26 : BitVec 32 := Scalar.select v25 c6_i32_18 v24
  let v28 : BitVec 32 := Scalar.select v27 c5_i32_20 v26
  let v30 : BitVec 32 := Scalar.select v29 c4_i32_22 v28
  let c1_i32_42 : BitVec 32 := 1#32
  let v48 : BitVec 32 := Scalar.muli v30 c1_i32_42
  let v49 : BitVec 32 := Scalar.addi c0_i32_43 v48
  v49.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c2_i32_35 : BitVec 32 := 2#32
  let c5_i32_32 : BitVec 32 := 5#32
  let v39 : BitVec 1 := Scalar.cmpi .eq v2 c5_i32_32
  let c1_i32_33 : BitVec 32 := 1#32
  let c4_i32_30 : BitVec 32 := 4#32
  let v37 : BitVec 1 := Scalar.cmpi .eq v2 c4_i32_30
  let c0_i32_31 : BitVec 32 := 0#32
  let c3_i32_28 : BitVec 32 := 3#32
  let v35 : BitVec 1 := Scalar.cmpi .eq v2 c3_i32_28
  let c7_i32_29 : BitVec 32 := 7#32
  let c2_i32_26 : BitVec 32 := 2#32
  let v33 : BitVec 1 := Scalar.cmpi .eq v2 c2_i32_26
  let c6_i32_27 : BitVec 32 := 6#32
  let c1_i32_23 : BitVec 32 := 1#32
  let v31 : BitVec 1 := Scalar.cmpi .eq v2 c1_i32_23
  let c5_i32_24 : BitVec 32 := 5#32
  let c4_i32_25 : BitVec 32 := 4#32
  let v32 : BitVec 32 := Scalar.select v31 c5_i32_24 c4_i32_25
  let v34 : BitVec 32 := Scalar.select v33 c6_i32_27 v32
  let v36 : BitVec 32 := Scalar.select v35 c7_i32_29 v34
  let v38 : BitVec 32 := Scalar.select v37 c0_i32_31 v36
  let v40 : BitVec 32 := Scalar.select v39 c1_i32_33 v38
  let v42 : BitVec 32 := Scalar.select v41 c2_i32_35 v40
  let v44 : BitVec 32 := Scalar.select v43 c3_i32_37 v42
  let c1_i32_45 : BitVec 32 := 1#32
  let v50 : BitVec 32 := Scalar.muli v44 c1_i32_45
  let v51 : BitVec 32 := Scalar.addi c0_i32_46 v50
  v51.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v474 : BitVec 32 := Scalar.muli v2 c256_i32
  let c0_i32_499 : BitVec 32 := 0#32
  let v475 : BitVec 32 := Scalar.addi v474 c0_i32_499
  let c0_i32_506 : BitVec 32 := 0#32
  ![v475.toNat, 0]
def k0_dev4 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_62 : BitVec 32 := 7#32
  let v66 : BitVec 1 := Scalar.cmpi .eq v2 c7_i32_62
  let c6_i32_63 : BitVec 32 := 6#32
  let c6_i32_60 : BitVec 32 := 6#32
  let v64 : BitVec 1 := Scalar.cmpi .eq v2 c6_i32_60
  let c7_i32_61 : BitVec 32 := 7#32
  let c5_i32_58 : BitVec 32 := 5#32
  let v62 : BitVec 1 := Scalar.cmpi .eq v2 c5_i32_58
  let c4_i32_59 : BitVec 32 := 4#32
  let c4_i32_56 : BitVec 32 := 4#32
  let v60 : BitVec 1 := Scalar.cmpi .eq v2 c4_i32_56
  let c5_i32_57 : BitVec 32 := 5#32
  let c3_i32_54 : BitVec 32 := 3#32
  let v58 : BitVec 1 := Scalar.cmpi .eq v2 c3_i32_54
  let c2_i32_55 : BitVec 32 := 2#32
  let c2_i32_52 : BitVec 32 := 2#32
  let v56 : BitVec 1 := Scalar.cmpi .eq v2 c2_i32_52
  let c3_i32_53 : BitVec 32 := 3#32
  let c1_i32_49 : BitVec 32 := 1#32
  let v54 : BitVec 1 := Scalar.cmpi .eq v2 c1_i32_49
  let c0_i32_50 : BitVec 32 := 0#32
  let c1_i32_51 : BitVec 32 := 1#32
  let v55 : BitVec 32 := Scalar.select v54 c0_i32_50 c1_i32_51
  let v57 : BitVec 32 := Scalar.select v56 c3_i32_53 v55
  let v59 : BitVec 32 := Scalar.select v58 c2_i32_55 v57
  let v61 : BitVec 32 := Scalar.select v60 c5_i32_57 v59
  let v63 : BitVec 32 := Scalar.select v62 c4_i32_59 v61
  let v65 : BitVec 32 := Scalar.select v64 c7_i32_61 v63
  let v67 : BitVec 32 := Scalar.select v66 c6_i32_63 v65
  let c1_i32_504 : BitVec 32 := 1#32
  let v476 : BitVec 32 := Scalar.muli v67 c1_i32_504
  let v477 : BitVec 32 := Scalar.addi c0_i32_505 v476
  v477.toNat
def k0_off2 (d0 : Dev nD) (c96_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_509 : BitVec 32 := 256#32
  let v484 : BitVec 32 := Scalar.muli v2 c256_i32_509
  let v485 : BitVec 32 := Scalar.addi v484 c96_i32
  let c0_i32_516 : BitVec 32 := 0#32
  ![v485.toNat, 0]
def k0_dev5 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_212 : BitVec 32 := 7#32
  let v206 : BitVec 1 := Scalar.cmpi .eq v2 c7_i32_212
  let c4_i32_213 : BitVec 32 := 4#32
  let c6_i32_210 : BitVec 32 := 6#32
  let v204 : BitVec 1 := Scalar.cmpi .eq v2 c6_i32_210
  let c5_i32_211 : BitVec 32 := 5#32
  let c5_i32_208 : BitVec 32 := 5#32
  let v202 : BitVec 1 := Scalar.cmpi .eq v2 c5_i32_208
  let c6_i32_209 : BitVec 32 := 6#32
  let c4_i32_206 : BitVec 32 := 4#32
  let v200 : BitVec 1 := Scalar.cmpi .eq v2 c4_i32_206
  let c7_i32_207 : BitVec 32 := 7#32
  let c3_i32_204 : BitVec 32 := 3#32
  let v198 : BitVec 1 := Scalar.cmpi .eq v2 c3_i32_204
  let c0_i32_205 : BitVec 32 := 0#32
  let c2_i32_202 : BitVec 32 := 2#32
  let v196 : BitVec 1 := Scalar.cmpi .eq v2 c2_i32_202
  let c1_i32_203 : BitVec 32 := 1#32
  let c1_i32_199 : BitVec 32 := 1#32
  let v194 : BitVec 1 := Scalar.cmpi .eq v2 c1_i32_199
  let c2_i32_200 : BitVec 32 := 2#32
  let c3_i32_201 : BitVec 32 := 3#32
  let v195 : BitVec 32 := Scalar.select v194 c2_i32_200 c3_i32_201
  let v197 : BitVec 32 := Scalar.select v196 c1_i32_203 v195
  let v199 : BitVec 32 := Scalar.select v198 c0_i32_205 v197
  let v201 : BitVec 32 := Scalar.select v200 c7_i32_207 v199
  let v203 : BitVec 32 := Scalar.select v202 c6_i32_209 v201
  let v205 : BitVec 32 := Scalar.select v204 c5_i32_211 v203
  let v207 : BitVec 32 := Scalar.select v206 c4_i32_213 v205
  let c1_i32_514 : BitVec 32 := 1#32
  let v486 : BitVec 32 := Scalar.muli v207 c1_i32_514
  let v487 : BitVec 32 := Scalar.addi c0_i32_515 v486
  v487.toNat
def k0_dev6 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_362 : BitVec 32 := 7#32
  let v346 : BitVec 1 := Scalar.cmpi .eq v2 c7_i32_362
  let c3_i32_363 : BitVec 32 := 3#32
  let c6_i32_360 : BitVec 32 := 6#32
  let v344 : BitVec 1 := Scalar.cmpi .eq v2 c6_i32_360
  let c2_i32_361 : BitVec 32 := 2#32
  let c5_i32_358 : BitVec 32 := 5#32
  let v342 : BitVec 1 := Scalar.cmpi .eq v2 c5_i32_358
  let c1_i32_359 : BitVec 32 := 1#32
  let c4_i32_356 : BitVec 32 := 4#32
  let v340 : BitVec 1 := Scalar.cmpi .eq v2 c4_i32_356
  let c0_i32_357 : BitVec 32 := 0#32
  let c3_i32_354 : BitVec 32 := 3#32
  let v338 : BitVec 1 := Scalar.cmpi .eq v2 c3_i32_354
  let c7_i32_355 : BitVec 32 := 7#32
  let c2_i32_352 : BitVec 32 := 2#32
  let v336 : BitVec 1 := Scalar.cmpi .eq v2 c2_i32_352
  let c6_i32_353 : BitVec 32 := 6#32
  let c1_i32_349 : BitVec 32 := 1#32
  let v334 : BitVec 1 := Scalar.cmpi .eq v2 c1_i32_349
  let c5_i32_350 : BitVec 32 := 5#32
  let c4_i32_351 : BitVec 32 := 4#32
  let v335 : BitVec 32 := Scalar.select v334 c5_i32_350 c4_i32_351
  let v337 : BitVec 32 := Scalar.select v336 c6_i32_353 v335
  let v339 : BitVec 32 := Scalar.select v338 c7_i32_355 v337
  let v341 : BitVec 32 := Scalar.select v340 c0_i32_357 v339
  let v343 : BitVec 32 := Scalar.select v342 c1_i32_359 v341
  let v345 : BitVec 32 := Scalar.select v344 c2_i32_361 v343
  let v347 : BitVec 32 := Scalar.select v346 c3_i32_363 v345
  let c1_i32_524 : BitVec 32 := 1#32
  let v496 : BitVec 32 := Scalar.muli v347 c1_i32_524
  let v497 : BitVec 32 := Scalar.addi c0_i32_525 v496
  v497.toNat
def k0_dev7 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_77 : BitVec 32 := 7#32
  let v80 : BitVec 1 := Scalar.cmpi .eq v2 c7_i32_77
  let c4_i32_78 : BitVec 32 := 4#32
  let c6_i32_75 : BitVec 32 := 6#32
  let v78 : BitVec 1 := Scalar.cmpi .eq v2 c6_i32_75
  let c5_i32_76 : BitVec 32 := 5#32
  let c5_i32_73 : BitVec 32 := 5#32
  let v76 : BitVec 1 := Scalar.cmpi .eq v2 c5_i32_73
  let c6_i32_74 : BitVec 32 := 6#32
  let c4_i32_71 : BitVec 32 := 4#32
  let v74 : BitVec 1 := Scalar.cmpi .eq v2 c4_i32_71
  let c7_i32_72 : BitVec 32 := 7#32
  let c3_i32_69 : BitVec 32 := 3#32
  let v72 : BitVec 1 := Scalar.cmpi .eq v2 c3_i32_69
  let c0_i32_70 : BitVec 32 := 0#32
  let c2_i32_67 : BitVec 32 := 2#32
  let v70 : BitVec 1 := Scalar.cmpi .eq v2 c2_i32_67
  let c1_i32_68 : BitVec 32 := 1#32
  let c1_i32_64 : BitVec 32 := 1#32
  let v68 : BitVec 1 := Scalar.cmpi .eq v2 c1_i32_64
  let c2_i32_65 : BitVec 32 := 2#32
  let c3_i32_66 : BitVec 32 := 3#32
  let v69 : BitVec 32 := Scalar.select v68 c2_i32_65 c3_i32_66
  let v71 : BitVec 32 := Scalar.select v70 c1_i32_68 v69
  let v73 : BitVec 32 := Scalar.select v72 c0_i32_70 v71
  let v75 : BitVec 32 := Scalar.select v74 c7_i32_72 v73
  let v77 : BitVec 32 := Scalar.select v76 c6_i32_74 v75
  let v79 : BitVec 32 := Scalar.select v78 c5_i32_76 v77
  let v81 : BitVec 32 := Scalar.select v80 c4_i32_78 v79
  let c1_i32_535 : BitVec 32 := 1#32
  let v506 : BitVec 32 := Scalar.muli v81 c1_i32_535
  let v507 : BitVec 32 := Scalar.addi c0_i32_536 v506
  v507.toNat
def k0_dev8 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_227 : BitVec 32 := 7#32
  let v220 : BitVec 1 := Scalar.cmpi .eq v2 c7_i32_227
  let c3_i32_228 : BitVec 32 := 3#32
  let c6_i32_225 : BitVec 32 := 6#32
  let v218 : BitVec 1 := Scalar.cmpi .eq v2 c6_i32_225
  let c2_i32_226 : BitVec 32 := 2#32
  let c5_i32_223 : BitVec 32 := 5#32
  let v216 : BitVec 1 := Scalar.cmpi .eq v2 c5_i32_223
  let c1_i32_224 : BitVec 32 := 1#32
  let c4_i32_221 : BitVec 32 := 4#32
  let v214 : BitVec 1 := Scalar.cmpi .eq v2 c4_i32_221
  let c0_i32_222 : BitVec 32 := 0#32
  let c3_i32_219 : BitVec 32 := 3#32
  let v212 : BitVec 1 := Scalar.cmpi .eq v2 c3_i32_219
  let c7_i32_220 : BitVec 32 := 7#32
  let c2_i32_217 : BitVec 32 := 2#32
  let v210 : BitVec 1 := Scalar.cmpi .eq v2 c2_i32_217
  let c6_i32_218 : BitVec 32 := 6#32
  let c1_i32_214 : BitVec 32 := 1#32
  let v208 : BitVec 1 := Scalar.cmpi .eq v2 c1_i32_214
  let c5_i32_215 : BitVec 32 := 5#32
  let c4_i32_216 : BitVec 32 := 4#32
  let v209 : BitVec 32 := Scalar.select v208 c5_i32_215 c4_i32_216
  let v211 : BitVec 32 := Scalar.select v210 c6_i32_218 v209
  let v213 : BitVec 32 := Scalar.select v212 c7_i32_220 v211
  let v215 : BitVec 32 := Scalar.select v214 c0_i32_222 v213
  let v217 : BitVec 32 := Scalar.select v216 c1_i32_224 v215
  let v219 : BitVec 32 := Scalar.select v218 c2_i32_226 v217
  let v221 : BitVec 32 := Scalar.select v220 c3_i32_228 v219
  let c1_i32_546 : BitVec 32 := 1#32
  let v516 : BitVec 32 := Scalar.muli v221 c1_i32_546
  let v517 : BitVec 32 := Scalar.addi c0_i32_547 v516
  v517.toNat
def k0_dev9 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_377 : BitVec 32 := 7#32
  let v360 : BitVec 1 := Scalar.cmpi .eq v2 c7_i32_377
  let c6_i32_378 : BitVec 32 := 6#32
  let c6_i32_375 : BitVec 32 := 6#32
  let v358 : BitVec 1 := Scalar.cmpi .eq v2 c6_i32_375
  let c7_i32_376 : BitVec 32 := 7#32
  let c5_i32_373 : BitVec 32 := 5#32
  let v356 : BitVec 1 := Scalar.cmpi .eq v2 c5_i32_373
  let c4_i32_374 : BitVec 32 := 4#32
  let c4_i32_371 : BitVec 32 := 4#32
  let v354 : BitVec 1 := Scalar.cmpi .eq v2 c4_i32_371
  let c5_i32_372 : BitVec 32 := 5#32
  let c3_i32_369 : BitVec 32 := 3#32
  let v352 : BitVec 1 := Scalar.cmpi .eq v2 c3_i32_369
  let c2_i32_370 : BitVec 32 := 2#32
  let c2_i32_367 : BitVec 32 := 2#32
  let v350 : BitVec 1 := Scalar.cmpi .eq v2 c2_i32_367
  let c3_i32_368 : BitVec 32 := 3#32
  let c1_i32_364 : BitVec 32 := 1#32
  let v348 : BitVec 1 := Scalar.cmpi .eq v2 c1_i32_364
  let c0_i32_365 : BitVec 32 := 0#32
  let c1_i32_366 : BitVec 32 := 1#32
  let v349 : BitVec 32 := Scalar.select v348 c0_i32_365 c1_i32_366
  let v351 : BitVec 32 := Scalar.select v350 c3_i32_368 v349
  let v353 : BitVec 32 := Scalar.select v352 c2_i32_370 v351
  let v355 : BitVec 32 := Scalar.select v354 c5_i32_372 v353
  let v357 : BitVec 32 := Scalar.select v356 c4_i32_374 v355
  let v359 : BitVec 32 := Scalar.select v358 c7_i32_376 v357
  let v361 : BitVec 32 := Scalar.select v360 c6_i32_378 v359
  let c1_i32_557 : BitVec 32 := 1#32
  let v526 : BitVec 32 := Scalar.muli v361 c1_i32_557
  let v527 : BitVec 32 := Scalar.addi c0_i32_558 v526
  v527.toNat
def k0_dev10 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v94 : BitVec 1 := Scalar.cmpi .eq v2 c7_i32_92
  let c3_i32_93 : BitVec 32 := 3#32
  let c6_i32_90 : BitVec 32 := 6#32
  let v92 : BitVec 1 := Scalar.cmpi .eq v2 c6_i32_90
  let c2_i32_91 : BitVec 32 := 2#32
  let c5_i32_88 : BitVec 32 := 5#32
  let v90 : BitVec 1 := Scalar.cmpi .eq v2 c5_i32_88
  let c1_i32_89 : BitVec 32 := 1#32
  let c4_i32_86 : BitVec 32 := 4#32
  let v88 : BitVec 1 := Scalar.cmpi .eq v2 c4_i32_86
  let c0_i32_87 : BitVec 32 := 0#32
  let c3_i32_84 : BitVec 32 := 3#32
  let v86 : BitVec 1 := Scalar.cmpi .eq v2 c3_i32_84
  let c7_i32_85 : BitVec 32 := 7#32
  let c2_i32_82 : BitVec 32 := 2#32
  let v84 : BitVec 1 := Scalar.cmpi .eq v2 c2_i32_82
  let c6_i32_83 : BitVec 32 := 6#32
  let c1_i32_79 : BitVec 32 := 1#32
  let v82 : BitVec 1 := Scalar.cmpi .eq v2 c1_i32_79
  let c5_i32_80 : BitVec 32 := 5#32
  let c4_i32_81 : BitVec 32 := 4#32
  let v83 : BitVec 32 := Scalar.select v82 c5_i32_80 c4_i32_81
  let v85 : BitVec 32 := Scalar.select v84 c6_i32_83 v83
  let v87 : BitVec 32 := Scalar.select v86 c7_i32_85 v85
  let v89 : BitVec 32 := Scalar.select v88 c0_i32_87 v87
  let v91 : BitVec 32 := Scalar.select v90 c1_i32_89 v89
  let v93 : BitVec 32 := Scalar.select v92 c2_i32_91 v91
  let v95 : BitVec 32 := Scalar.select v94 c3_i32_93 v93
  let c1_i32_568 : BitVec 32 := 1#32
  let v536 : BitVec 32 := Scalar.muli v95 c1_i32_568
  let v537 : BitVec 32 := Scalar.addi c0_i32_569 v536
  v537.toNat
def k0_dev11 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_242 : BitVec 32 := 7#32
  let v234 : BitVec 1 := Scalar.cmpi .eq v2 c7_i32_242
  let c6_i32_243 : BitVec 32 := 6#32
  let c6_i32_240 : BitVec 32 := 6#32
  let v232 : BitVec 1 := Scalar.cmpi .eq v2 c6_i32_240
  let c7_i32_241 : BitVec 32 := 7#32
  let c5_i32_238 : BitVec 32 := 5#32
  let v230 : BitVec 1 := Scalar.cmpi .eq v2 c5_i32_238
  let c4_i32_239 : BitVec 32 := 4#32
  let c4_i32_236 : BitVec 32 := 4#32
  let v228 : BitVec 1 := Scalar.cmpi .eq v2 c4_i32_236
  let c5_i32_237 : BitVec 32 := 5#32
  let c3_i32_234 : BitVec 32 := 3#32
  let v226 : BitVec 1 := Scalar.cmpi .eq v2 c3_i32_234
  let c2_i32_235 : BitVec 32 := 2#32
  let c2_i32_232 : BitVec 32 := 2#32
  let v224 : BitVec 1 := Scalar.cmpi .eq v2 c2_i32_232
  let c3_i32_233 : BitVec 32 := 3#32
  let c1_i32_229 : BitVec 32 := 1#32
  let v222 : BitVec 1 := Scalar.cmpi .eq v2 c1_i32_229
  let c0_i32_230 : BitVec 32 := 0#32
  let c1_i32_231 : BitVec 32 := 1#32
  let v223 : BitVec 32 := Scalar.select v222 c0_i32_230 c1_i32_231
  let v225 : BitVec 32 := Scalar.select v224 c3_i32_233 v223
  let v227 : BitVec 32 := Scalar.select v226 c2_i32_235 v225
  let v229 : BitVec 32 := Scalar.select v228 c5_i32_237 v227
  let v231 : BitVec 32 := Scalar.select v230 c4_i32_239 v229
  let v233 : BitVec 32 := Scalar.select v232 c7_i32_241 v231
  let v235 : BitVec 32 := Scalar.select v234 c6_i32_243 v233
  let c1_i32_579 : BitVec 32 := 1#32
  let v546 : BitVec 32 := Scalar.muli v235 c1_i32_579
  let v547 : BitVec 32 := Scalar.addi c0_i32_580 v546
  v547.toNat
def k0_dev12 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_392 : BitVec 32 := 7#32
  let v374 : BitVec 1 := Scalar.cmpi .eq v2 c7_i32_392
  let c4_i32_393 : BitVec 32 := 4#32
  let c6_i32_390 : BitVec 32 := 6#32
  let v372 : BitVec 1 := Scalar.cmpi .eq v2 c6_i32_390
  let c5_i32_391 : BitVec 32 := 5#32
  let c5_i32_388 : BitVec 32 := 5#32
  let v370 : BitVec 1 := Scalar.cmpi .eq v2 c5_i32_388
  let c6_i32_389 : BitVec 32 := 6#32
  let c4_i32_386 : BitVec 32 := 4#32
  let v368 : BitVec 1 := Scalar.cmpi .eq v2 c4_i32_386
  let c7_i32_387 : BitVec 32 := 7#32
  let c3_i32_384 : BitVec 32 := 3#32
  let v366 : BitVec 1 := Scalar.cmpi .eq v2 c3_i32_384
  let c0_i32_385 : BitVec 32 := 0#32
  let c2_i32_382 : BitVec 32 := 2#32
  let v364 : BitVec 1 := Scalar.cmpi .eq v2 c2_i32_382
  let c1_i32_383 : BitVec 32 := 1#32
  let c1_i32_379 : BitVec 32 := 1#32
  let v362 : BitVec 1 := Scalar.cmpi .eq v2 c1_i32_379
  let c2_i32_380 : BitVec 32 := 2#32
  let c3_i32_381 : BitVec 32 := 3#32
  let v363 : BitVec 32 := Scalar.select v362 c2_i32_380 c3_i32_381
  let v365 : BitVec 32 := Scalar.select v364 c1_i32_383 v363
  let v367 : BitVec 32 := Scalar.select v366 c0_i32_385 v365
  let v369 : BitVec 32 := Scalar.select v368 c7_i32_387 v367
  let v371 : BitVec 32 := Scalar.select v370 c6_i32_389 v369
  let v373 : BitVec 32 := Scalar.select v372 c5_i32_391 v371
  let v375 : BitVec 32 := Scalar.select v374 c4_i32_393 v373
  let c1_i32_590 : BitVec 32 := 1#32
  let v556 : BitVec 32 := Scalar.muli v375 c1_i32_590
  let v557 : BitVec 32 := Scalar.addi c0_i32_591 v556
  v557.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_601 : BitVec 32 := 256#32
  let v580 : BitVec 32 := Scalar.muli v2 c256_i32_601
  let v581 : Index := Scalar.indexCast v580
  let c0_602 : Index := 0#32
  ![v581.toNat, 0]
def k0_off4 (d0 : Dev nD) (c6_i32_108 : BitVec 32) (c7_i32_106 : BitVec 32) (c4_i32_104 : BitVec 32) (c5_i32_102 : BitVec 32) (c2_i32_100 : BitVec 32) (c3_i32_98 : BitVec 32) (c0_i32_95 : BitVec 32) (c1_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_107 : BitVec 32 := 7#32
  let v108 : BitVec 1 := Scalar.cmpi .eq v2 c7_i32_107
  let c6_i32_105 : BitVec 32 := 6#32
  let v106 : BitVec 1 := Scalar.cmpi .eq v2 c6_i32_105
  let c5_i32_103 : BitVec 32 := 5#32
  let v104 : BitVec 1 := Scalar.cmpi .eq v2 c5_i32_103
  let c4_i32_101 : BitVec 32 := 4#32
  let v102 : BitVec 1 := Scalar.cmpi .eq v2 c4_i32_101
  let c3_i32_99 : BitVec 32 := 3#32
  let v100 : BitVec 1 := Scalar.cmpi .eq v2 c3_i32_99
  let c2_i32_97 : BitVec 32 := 2#32
  let v98 : BitVec 1 := Scalar.cmpi .eq v2 c2_i32_97
  let c1_i32_94 : BitVec 32 := 1#32
  let v96 : BitVec 1 := Scalar.cmpi .eq v2 c1_i32_94
  let v97 : BitVec 32 := Scalar.select v96 c0_i32_95 c1_i32_96
  let v99 : BitVec 32 := Scalar.select v98 c3_i32_98 v97
  let v101 : BitVec 32 := Scalar.select v100 c2_i32_100 v99
  let v103 : BitVec 32 := Scalar.select v102 c5_i32_102 v101
  let v105 : BitVec 32 := Scalar.select v104 c4_i32_104 v103
  let v107 : BitVec 32 := Scalar.select v106 c7_i32_106 v105
  let v109 : BitVec 32 := Scalar.select v108 c6_i32_108 v107
  let c256_i32_605 : BitVec 32 := 256#32
  let v585 : BitVec 32 := Scalar.muli v109 c256_i32_605
  let c0_i32_606 : BitVec 32 := 0#32
  let v586 : BitVec 32 := Scalar.addi v585 c0_i32_606
  let c0_i32_613 : BitVec 32 := 0#32
  ![v586.toNat, 0]
def k0_off4_at (r : Fin 7) : BitVec 32 × BitVec 32 × BitVec 32 × BitVec 32 × BitVec 32 × BitVec 32 × BitVec 32 × BitVec 32 :=
  if r.val < 3 then
    if r.val < 1 then
      (6#32, 7#32, 4#32, 5#32, 2#32, 3#32, 0#32, 1#32)
    else
      if r.val < 2 then
        (4#32, 5#32, 6#32, 7#32, 0#32, 1#32, 2#32, 3#32)
      else
        (5#32, 4#32, 7#32, 6#32, 1#32, 0#32, 3#32, 2#32)
  else
    if r.val < 5 then
      if r.val < 4 then
        (3#32, 2#32, 1#32, 0#32, 7#32, 6#32, 5#32, 4#32)
      else
        (2#32, 3#32, 0#32, 1#32, 6#32, 7#32, 4#32, 5#32)
    else
      if r.val < 6 then
        (0#32, 1#32, 2#32, 3#32, 4#32, 5#32, 6#32, 7#32)
      else
        (1#32, 0#32, 3#32, 2#32, 5#32, 4#32, 7#32, 6#32)
def k0_dev13 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_77 : BitVec 32 := 7#32
  let v80 : BitVec 1 := Scalar.cmpi .eq v2 c7_i32_77
  let c4_i32_78 : BitVec 32 := 4#32
  let c6_i32_75 : BitVec 32 := 6#32
  let v78 : BitVec 1 := Scalar.cmpi .eq v2 c6_i32_75
  let c5_i32_76 : BitVec 32 := 5#32
  let c5_i32_73 : BitVec 32 := 5#32
  let v76 : BitVec 1 := Scalar.cmpi .eq v2 c5_i32_73
  let c6_i32_74 : BitVec 32 := 6#32
  let c4_i32_71 : BitVec 32 := 4#32
  let v74 : BitVec 1 := Scalar.cmpi .eq v2 c4_i32_71
  let c7_i32_72 : BitVec 32 := 7#32
  let c3_i32_69 : BitVec 32 := 3#32
  let v72 : BitVec 1 := Scalar.cmpi .eq v2 c3_i32_69
  let c0_i32_70 : BitVec 32 := 0#32
  let c2_i32_67 : BitVec 32 := 2#32
  let v70 : BitVec 1 := Scalar.cmpi .eq v2 c2_i32_67
  let c1_i32_68 : BitVec 32 := 1#32
  let c1_i32_64 : BitVec 32 := 1#32
  let v68 : BitVec 1 := Scalar.cmpi .eq v2 c1_i32_64
  let c2_i32_65 : BitVec 32 := 2#32
  let c3_i32_66 : BitVec 32 := 3#32
  let v69 : BitVec 32 := Scalar.select v68 c2_i32_65 c3_i32_66
  let v71 : BitVec 32 := Scalar.select v70 c1_i32_68 v69
  let v73 : BitVec 32 := Scalar.select v72 c0_i32_70 v71
  let v75 : BitVec 32 := Scalar.select v74 c7_i32_72 v73
  let v77 : BitVec 32 := Scalar.select v76 c6_i32_74 v75
  let v79 : BitVec 32 := Scalar.select v78 c5_i32_76 v77
  let v81 : BitVec 32 := Scalar.select v80 c4_i32_78 v79
  let c1_i32_623 : BitVec 32 := 1#32
  let v597 : BitVec 32 := Scalar.muli v81 c1_i32_623
  let v598 : BitVec 32 := Scalar.addi c0_i32_624 v597
  v598.toNat
def k0_dev14 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v94 : BitVec 1 := Scalar.cmpi .eq v2 c7_i32_92
  let c3_i32_93 : BitVec 32 := 3#32
  let c6_i32_90 : BitVec 32 := 6#32
  let v92 : BitVec 1 := Scalar.cmpi .eq v2 c6_i32_90
  let c2_i32_91 : BitVec 32 := 2#32
  let c5_i32_88 : BitVec 32 := 5#32
  let v90 : BitVec 1 := Scalar.cmpi .eq v2 c5_i32_88
  let c1_i32_89 : BitVec 32 := 1#32
  let c4_i32_86 : BitVec 32 := 4#32
  let v88 : BitVec 1 := Scalar.cmpi .eq v2 c4_i32_86
  let c0_i32_87 : BitVec 32 := 0#32
  let c3_i32_84 : BitVec 32 := 3#32
  let v86 : BitVec 1 := Scalar.cmpi .eq v2 c3_i32_84
  let c7_i32_85 : BitVec 32 := 7#32
  let c2_i32_82 : BitVec 32 := 2#32
  let v84 : BitVec 1 := Scalar.cmpi .eq v2 c2_i32_82
  let c6_i32_83 : BitVec 32 := 6#32
  let c1_i32_79 : BitVec 32 := 1#32
  let v82 : BitVec 1 := Scalar.cmpi .eq v2 c1_i32_79
  let c5_i32_80 : BitVec 32 := 5#32
  let c4_i32_81 : BitVec 32 := 4#32
  let v83 : BitVec 32 := Scalar.select v82 c5_i32_80 c4_i32_81
  let v85 : BitVec 32 := Scalar.select v84 c6_i32_83 v83
  let v87 : BitVec 32 := Scalar.select v86 c7_i32_85 v85
  let v89 : BitVec 32 := Scalar.select v88 c0_i32_87 v87
  let v91 : BitVec 32 := Scalar.select v90 c1_i32_89 v89
  let v93 : BitVec 32 := Scalar.select v92 c2_i32_91 v91
  let v95 : BitVec 32 := Scalar.select v94 c3_i32_93 v93
  let c1_i32_635 : BitVec 32 := 1#32
  let v609 : BitVec 32 := Scalar.muli v95 c1_i32_635
  let v610 : BitVec 32 := Scalar.addi c0_i32_636 v609
  v610.toNat
def k0_off5 (d0 : Dev nD) (c4_i32_258 : BitVec 32) (c5_i32_256 : BitVec 32) (c6_i32_254 : BitVec 32) (c7_i32_252 : BitVec 32) (c0_i32_250 : BitVec 32) (c1_i32_248 : BitVec 32) (c2_i32_245 : BitVec 32) (c3_i32_246 : BitVec 32) (c96_i32_642 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_257 : BitVec 32 := 7#32
  let v248 : BitVec 1 := Scalar.cmpi .eq v2 c7_i32_257
  let c6_i32_255 : BitVec 32 := 6#32
  let v246 : BitVec 1 := Scalar.cmpi .eq v2 c6_i32_255
  let c5_i32_253 : BitVec 32 := 5#32
  let v244 : BitVec 1 := Scalar.cmpi .eq v2 c5_i32_253
  let c4_i32_251 : BitVec 32 := 4#32
  let v242 : BitVec 1 := Scalar.cmpi .eq v2 c4_i32_251
  let c3_i32_249 : BitVec 32 := 3#32
  let v240 : BitVec 1 := Scalar.cmpi .eq v2 c3_i32_249
  let c2_i32_247 : BitVec 32 := 2#32
  let v238 : BitVec 1 := Scalar.cmpi .eq v2 c2_i32_247
  let c1_i32_244 : BitVec 32 := 1#32
  let v236 : BitVec 1 := Scalar.cmpi .eq v2 c1_i32_244
  let v237 : BitVec 32 := Scalar.select v236 c2_i32_245 c3_i32_246
  let v239 : BitVec 32 := Scalar.select v238 c1_i32_248 v237
  let v241 : BitVec 32 := Scalar.select v240 c0_i32_250 v239
  let v243 : BitVec 32 := Scalar.select v242 c7_i32_252 v241
  let v245 : BitVec 32 := Scalar.select v244 c6_i32_254 v243
  let v247 : BitVec 32 := Scalar.select v246 c5_i32_256 v245
  let v249 : BitVec 32 := Scalar.select v248 c4_i32_258 v247
  let c256_i32_641 : BitVec 32 := 256#32
  let v619 : BitVec 32 := Scalar.muli v249 c256_i32_641
  let v620 : BitVec 32 := Scalar.addi v619 c96_i32_642
  let c0_i32_649 : BitVec 32 := 0#32
  ![v620.toNat, 0]
def k0_off5_at (r : Fin 14) : BitVec 32 × BitVec 32 × BitVec 32 × BitVec 32 × BitVec 32 × BitVec 32 × BitVec 32 × BitVec 32 × BitVec 32 :=
  if r.val < 7 then
    if r.val < 3 then
      if r.val < 1 then
        (4#32, 5#32, 6#32, 7#32, 0#32, 1#32, 2#32, 3#32, 96#32)
      else
        if r.val < 2 then
          (3#32, 2#32, 1#32, 0#32, 7#32, 6#32, 5#32, 4#32, 176#32)
        else
          (3#32, 2#32, 1#32, 0#32, 7#32, 6#32, 5#32, 4#32, 96#32)
    else
      if r.val < 5 then
        if r.val < 4 then
          (6#32, 7#32, 4#32, 5#32, 2#32, 3#32, 0#32, 1#32, 176#32)
        else
          (0#32, 1#32, 2#32, 3#32, 4#32, 5#32, 6#32, 7#32, 96#32)
      else
        if r.val < 6 then
          (2#32, 3#32, 0#32, 1#32, 6#32, 7#32, 4#32, 5#32, 176#32)
        else
          (6#32, 7#32, 4#32, 5#32, 2#32, 3#32, 0#32, 1#32, 96#32)
  else
    if r.val < 10 then
      if r.val < 8 then
        (4#32, 5#32, 6#32, 7#32, 0#32, 1#32, 2#32, 3#32, 176#32)
      else
        if r.val < 9 then
          (5#32, 4#32, 7#32, 6#32, 1#32, 0#32, 3#32, 2#32, 96#32)
        else
          (0#32, 1#32, 2#32, 3#32, 4#32, 5#32, 6#32, 7#32, 176#32)
    else
      if r.val < 12 then
        if r.val < 11 then
          (2#32, 3#32, 0#32, 1#32, 6#32, 7#32, 4#32, 5#32, 96#32)
        else
          (5#32, 4#32, 7#32, 6#32, 1#32, 0#32, 3#32, 2#32, 176#32)
      else
        if r.val < 13 then
          (1#32, 0#32, 3#32, 2#32, 5#32, 4#32, 7#32, 6#32, 96#32)
        else
          (1#32, 0#32, 3#32, 2#32, 5#32, 4#32, 7#32, 6#32, 176#32)
def k0_dev15 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_227 : BitVec 32 := 7#32
  let v220 : BitVec 1 := Scalar.cmpi .eq v2 c7_i32_227
  let c3_i32_228 : BitVec 32 := 3#32
  let c6_i32_225 : BitVec 32 := 6#32
  let v218 : BitVec 1 := Scalar.cmpi .eq v2 c6_i32_225
  let c2_i32_226 : BitVec 32 := 2#32
  let c5_i32_223 : BitVec 32 := 5#32
  let v216 : BitVec 1 := Scalar.cmpi .eq v2 c5_i32_223
  let c1_i32_224 : BitVec 32 := 1#32
  let c4_i32_221 : BitVec 32 := 4#32
  let v214 : BitVec 1 := Scalar.cmpi .eq v2 c4_i32_221
  let c0_i32_222 : BitVec 32 := 0#32
  let c3_i32_219 : BitVec 32 := 3#32
  let v212 : BitVec 1 := Scalar.cmpi .eq v2 c3_i32_219
  let c7_i32_220 : BitVec 32 := 7#32
  let c2_i32_217 : BitVec 32 := 2#32
  let v210 : BitVec 1 := Scalar.cmpi .eq v2 c2_i32_217
  let c6_i32_218 : BitVec 32 := 6#32
  let c1_i32_214 : BitVec 32 := 1#32
  let v208 : BitVec 1 := Scalar.cmpi .eq v2 c1_i32_214
  let c5_i32_215 : BitVec 32 := 5#32
  let c4_i32_216 : BitVec 32 := 4#32
  let v209 : BitVec 32 := Scalar.select v208 c5_i32_215 c4_i32_216
  let v211 : BitVec 32 := Scalar.select v210 c6_i32_218 v209
  let v213 : BitVec 32 := Scalar.select v212 c7_i32_220 v211
  let v215 : BitVec 32 := Scalar.select v214 c0_i32_222 v213
  let v217 : BitVec 32 := Scalar.select v216 c1_i32_224 v215
  let v219 : BitVec 32 := Scalar.select v218 c2_i32_226 v217
  let v221 : BitVec 32 := Scalar.select v220 c3_i32_228 v219
  let c1_i32_659 : BitVec 32 := 1#32
  let v631 : BitVec 32 := Scalar.muli v221 c1_i32_659
  let v632 : BitVec 32 := Scalar.addi c0_i32_660 v631
  v632.toNat
def k0_dev16 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_242 : BitVec 32 := 7#32
  let v234 : BitVec 1 := Scalar.cmpi .eq v2 c7_i32_242
  let c6_i32_243 : BitVec 32 := 6#32
  let c6_i32_240 : BitVec 32 := 6#32
  let v232 : BitVec 1 := Scalar.cmpi .eq v2 c6_i32_240
  let c7_i32_241 : BitVec 32 := 7#32
  let c5_i32_238 : BitVec 32 := 5#32
  let v230 : BitVec 1 := Scalar.cmpi .eq v2 c5_i32_238
  let c4_i32_239 : BitVec 32 := 4#32
  let c4_i32_236 : BitVec 32 := 4#32
  let v228 : BitVec 1 := Scalar.cmpi .eq v2 c4_i32_236
  let c5_i32_237 : BitVec 32 := 5#32
  let c3_i32_234 : BitVec 32 := 3#32
  let v226 : BitVec 1 := Scalar.cmpi .eq v2 c3_i32_234
  let c2_i32_235 : BitVec 32 := 2#32
  let c2_i32_232 : BitVec 32 := 2#32
  let v224 : BitVec 1 := Scalar.cmpi .eq v2 c2_i32_232
  let c3_i32_233 : BitVec 32 := 3#32
  let c1_i32_229 : BitVec 32 := 1#32
  let v222 : BitVec 1 := Scalar.cmpi .eq v2 c1_i32_229
  let c0_i32_230 : BitVec 32 := 0#32
  let c1_i32_231 : BitVec 32 := 1#32
  let v223 : BitVec 32 := Scalar.select v222 c0_i32_230 c1_i32_231
  let v225 : BitVec 32 := Scalar.select v224 c3_i32_233 v223
  let v227 : BitVec 32 := Scalar.select v226 c2_i32_235 v225
  let v229 : BitVec 32 := Scalar.select v228 c5_i32_237 v227
  let v231 : BitVec 32 := Scalar.select v230 c4_i32_239 v229
  let v233 : BitVec 32 := Scalar.select v232 c7_i32_241 v231
  let v235 : BitVec 32 := Scalar.select v234 c6_i32_243 v233
  let c1_i32_671 : BitVec 32 := 1#32
  let v643 : BitVec 32 := Scalar.muli v235 c1_i32_671
  let v644 : BitVec 32 := Scalar.addi c0_i32_672 v643
  v644.toNat
def k0_dev17 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_377 : BitVec 32 := 7#32
  let v360 : BitVec 1 := Scalar.cmpi .eq v2 c7_i32_377
  let c6_i32_378 : BitVec 32 := 6#32
  let c6_i32_375 : BitVec 32 := 6#32
  let v358 : BitVec 1 := Scalar.cmpi .eq v2 c6_i32_375
  let c7_i32_376 : BitVec 32 := 7#32
  let c5_i32_373 : BitVec 32 := 5#32
  let v356 : BitVec 1 := Scalar.cmpi .eq v2 c5_i32_373
  let c4_i32_374 : BitVec 32 := 4#32
  let c4_i32_371 : BitVec 32 := 4#32
  let v354 : BitVec 1 := Scalar.cmpi .eq v2 c4_i32_371
  let c5_i32_372 : BitVec 32 := 5#32
  let c3_i32_369 : BitVec 32 := 3#32
  let v352 : BitVec 1 := Scalar.cmpi .eq v2 c3_i32_369
  let c2_i32_370 : BitVec 32 := 2#32
  let c2_i32_367 : BitVec 32 := 2#32
  let v350 : BitVec 1 := Scalar.cmpi .eq v2 c2_i32_367
  let c3_i32_368 : BitVec 32 := 3#32
  let c1_i32_364 : BitVec 32 := 1#32
  let v348 : BitVec 1 := Scalar.cmpi .eq v2 c1_i32_364
  let c0_i32_365 : BitVec 32 := 0#32
  let c1_i32_366 : BitVec 32 := 1#32
  let v349 : BitVec 32 := Scalar.select v348 c0_i32_365 c1_i32_366
  let v351 : BitVec 32 := Scalar.select v350 c3_i32_368 v349
  let v353 : BitVec 32 := Scalar.select v352 c2_i32_370 v351
  let v355 : BitVec 32 := Scalar.select v354 c5_i32_372 v353
  let v357 : BitVec 32 := Scalar.select v356 c4_i32_374 v355
  let v359 : BitVec 32 := Scalar.select v358 c7_i32_376 v357
  let v361 : BitVec 32 := Scalar.select v360 c6_i32_378 v359
  let c1_i32_695 : BitVec 32 := 1#32
  let v665 : BitVec 32 := Scalar.muli v361 c1_i32_695
  let v666 : BitVec 32 := Scalar.addi c0_i32_696 v665
  v666.toNat
def k0_dev18 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_392 : BitVec 32 := 7#32
  let v374 : BitVec 1 := Scalar.cmpi .eq v2 c7_i32_392
  let c4_i32_393 : BitVec 32 := 4#32
  let c6_i32_390 : BitVec 32 := 6#32
  let v372 : BitVec 1 := Scalar.cmpi .eq v2 c6_i32_390
  let c5_i32_391 : BitVec 32 := 5#32
  let c5_i32_388 : BitVec 32 := 5#32
  let v370 : BitVec 1 := Scalar.cmpi .eq v2 c5_i32_388
  let c6_i32_389 : BitVec 32 := 6#32
  let c4_i32_386 : BitVec 32 := 4#32
  let v368 : BitVec 1 := Scalar.cmpi .eq v2 c4_i32_386
  let c7_i32_387 : BitVec 32 := 7#32
  let c3_i32_384 : BitVec 32 := 3#32
  let v366 : BitVec 1 := Scalar.cmpi .eq v2 c3_i32_384
  let c0_i32_385 : BitVec 32 := 0#32
  let c2_i32_382 : BitVec 32 := 2#32
  let v364 : BitVec 1 := Scalar.cmpi .eq v2 c2_i32_382
  let c1_i32_383 : BitVec 32 := 1#32
  let c1_i32_379 : BitVec 32 := 1#32
  let v362 : BitVec 1 := Scalar.cmpi .eq v2 c1_i32_379
  let c2_i32_380 : BitVec 32 := 2#32
  let c3_i32_381 : BitVec 32 := 3#32
  let v363 : BitVec 32 := Scalar.select v362 c2_i32_380 c3_i32_381
  let v365 : BitVec 32 := Scalar.select v364 c1_i32_383 v363
  let v367 : BitVec 32 := Scalar.select v366 c0_i32_385 v365
  let v369 : BitVec 32 := Scalar.select v368 c7_i32_387 v367
  let v371 : BitVec 32 := Scalar.select v370 c6_i32_389 v369
  let v373 : BitVec 32 := Scalar.select v372 c5_i32_391 v371
  let v375 : BitVec 32 := Scalar.select v374 c4_i32_393 v373
  let c1_i32_707 : BitVec 32 := 1#32
  let v677 : BitVec 32 := Scalar.muli v375 c1_i32_707
  let v678 : BitVec 32 := Scalar.addi c0_i32_708 v677
  v678.toNat
def k0_off6 (d0 : Dev nD) (c6_i32_108 : BitVec 32) (c7_i32_106 : BitVec 32) (c4_i32_104 : BitVec 32) (c5_i32_102 : BitVec 32) (c2_i32_100 : BitVec 32) (c3_i32_98 : BitVec 32) (c0_i32_95 : BitVec 32) (c1_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_107 : BitVec 32 := 7#32
  let v108 : BitVec 1 := Scalar.cmpi .eq v2 c7_i32_107
  let c6_i32_105 : BitVec 32 := 6#32
  let v106 : BitVec 1 := Scalar.cmpi .eq v2 c6_i32_105
  let c5_i32_103 : BitVec 32 := 5#32
  let v104 : BitVec 1 := Scalar.cmpi .eq v2 c5_i32_103
  let c4_i32_101 : BitVec 32 := 4#32
  let v102 : BitVec 1 := Scalar.cmpi .eq v2 c4_i32_101
  let c3_i32_99 : BitVec 32 := 3#32
  let v100 : BitVec 1 := Scalar.cmpi .eq v2 c3_i32_99
  let c2_i32_97 : BitVec 32 := 2#32
  let v98 : BitVec 1 := Scalar.cmpi .eq v2 c2_i32_97
  let c1_i32_94 : BitVec 32 := 1#32
  let v96 : BitVec 1 := Scalar.cmpi .eq v2 c1_i32_94
  let v97 : BitVec 32 := Scalar.select v96 c0_i32_95 c1_i32_96
  let v99 : BitVec 32 := Scalar.select v98 c3_i32_98 v97
  let v101 : BitVec 32 := Scalar.select v100 c2_i32_100 v99
  let v103 : BitVec 32 := Scalar.select v102 c5_i32_102 v101
  let v105 : BitVec 32 := Scalar.select v104 c4_i32_104 v103
  let v107 : BitVec 32 := Scalar.select v106 c7_i32_106 v105
  let v109 : BitVec 32 := Scalar.select v108 c6_i32_108 v107
  let c256_i32_711 : BitVec 32 := 256#32
  let v685 : BitVec 32 := Scalar.muli v109 c256_i32_711
  let c0_i32_712 : BitVec 32 := 0#32
  let v686 : BitVec 32 := Scalar.addi v685 c0_i32_712
  let v687 : Index := Scalar.indexCast v686
  let c0_713 : Index := 0#32
  ![v687.toNat, 0]
def k0_off6_at (r : Fin 7) : BitVec 32 × BitVec 32 × BitVec 32 × BitVec 32 × BitVec 32 × BitVec 32 × BitVec 32 × BitVec 32 :=
  if r.val < 3 then
    if r.val < 1 then
      (6#32, 7#32, 4#32, 5#32, 2#32, 3#32, 0#32, 1#32)
    else
      if r.val < 2 then
        (4#32, 5#32, 6#32, 7#32, 0#32, 1#32, 2#32, 3#32)
      else
        (5#32, 4#32, 7#32, 6#32, 1#32, 0#32, 3#32, 2#32)
  else
    if r.val < 5 then
      if r.val < 4 then
        (3#32, 2#32, 1#32, 0#32, 7#32, 6#32, 5#32, 4#32)
      else
        (2#32, 3#32, 0#32, 1#32, 6#32, 7#32, 4#32, 5#32)
    else
      if r.val < 6 then
        (0#32, 1#32, 2#32, 3#32, 4#32, 5#32, 6#32, 7#32)
      else
        (1#32, 0#32, 3#32, 2#32, 5#32, 4#32, 7#32, 6#32)
def k0_off7 (d0 : Dev nD) (c6_i32_108 : BitVec 32) (c7_i32_106 : BitVec 32) (c4_i32_104 : BitVec 32) (c5_i32_102 : BitVec 32) (c2_i32_100 : BitVec 32) (c3_i32_98 : BitVec 32) (c0_i32_95 : BitVec 32) (c1_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_107 : BitVec 32 := 7#32
  let v108 : BitVec 1 := Scalar.cmpi .eq v2 c7_i32_107
  let c6_i32_105 : BitVec 32 := 6#32
  let v106 : BitVec 1 := Scalar.cmpi .eq v2 c6_i32_105
  let c5_i32_103 : BitVec 32 := 5#32
  let v104 : BitVec 1 := Scalar.cmpi .eq v2 c5_i32_103
  let c4_i32_101 : BitVec 32 := 4#32
  let v102 : BitVec 1 := Scalar.cmpi .eq v2 c4_i32_101
  let c3_i32_99 : BitVec 32 := 3#32
  let v100 : BitVec 1 := Scalar.cmpi .eq v2 c3_i32_99
  let c2_i32_97 : BitVec 32 := 2#32
  let v98 : BitVec 1 := Scalar.cmpi .eq v2 c2_i32_97
  let c1_i32_94 : BitVec 32 := 1#32
  let v96 : BitVec 1 := Scalar.cmpi .eq v2 c1_i32_94
  let v97 : BitVec 32 := Scalar.select v96 c0_i32_95 c1_i32_96
  let v99 : BitVec 32 := Scalar.select v98 c3_i32_98 v97
  let v101 : BitVec 32 := Scalar.select v100 c2_i32_100 v99
  let v103 : BitVec 32 := Scalar.select v102 c5_i32_102 v101
  let v105 : BitVec 32 := Scalar.select v104 c4_i32_104 v103
  let v107 : BitVec 32 := Scalar.select v106 c7_i32_106 v105
  let v109 : BitVec 32 := Scalar.select v108 c6_i32_108 v107
  let c256_i32_711 : BitVec 32 := 256#32
  let v685 : BitVec 32 := Scalar.muli v109 c256_i32_711
  let c0_i32_712 : BitVec 32 := 0#32
  let v686 : BitVec 32 := Scalar.addi v685 c0_i32_712
  let v703 : Index := Scalar.indexCast v686
  let c0_719 : Index := 0#32
  ![v703.toNat, 0]
def k0_off7_at (r : Fin 7) : BitVec 32 × BitVec 32 × BitVec 32 × BitVec 32 × BitVec 32 × BitVec 32 × BitVec 32 × BitVec 32 :=
  if r.val < 3 then
    if r.val < 1 then
      (6#32, 7#32, 4#32, 5#32, 2#32, 3#32, 0#32, 1#32)
    else
      if r.val < 2 then
        (4#32, 5#32, 6#32, 7#32, 0#32, 1#32, 2#32, 3#32)
      else
        (5#32, 4#32, 7#32, 6#32, 1#32, 0#32, 3#32, 2#32)
  else
    if r.val < 5 then
      if r.val < 4 then
        (3#32, 2#32, 1#32, 0#32, 7#32, 6#32, 5#32, 4#32)
      else
        (2#32, 3#32, 0#32, 1#32, 6#32, 7#32, 4#32, 5#32)
    else
      if r.val < 6 then
        (0#32, 1#32, 2#32, 3#32, 4#32, 5#32, 6#32, 7#32)
      else
        (1#32, 0#32, 3#32, 2#32, 5#32, 4#32, 7#32, 6#32)
def k0_off8 (d0 : Dev nD) (c4_i32_258 : BitVec 32) (c5_i32_256 : BitVec 32) (c6_i32_254 : BitVec 32) (c7_i32_252 : BitVec 32) (c0_i32_250 : BitVec 32) (c1_i32_248 : BitVec 32) (c2_i32_245 : BitVec 32) (c3_i32_246 : BitVec 32) (c96_i32_721 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_257 : BitVec 32 := 7#32
  let v248 : BitVec 1 := Scalar.cmpi .eq v2 c7_i32_257
  let c6_i32_255 : BitVec 32 := 6#32
  let v246 : BitVec 1 := Scalar.cmpi .eq v2 c6_i32_255
  let c5_i32_253 : BitVec 32 := 5#32
  let v244 : BitVec 1 := Scalar.cmpi .eq v2 c5_i32_253
  let c4_i32_251 : BitVec 32 := 4#32
  let v242 : BitVec 1 := Scalar.cmpi .eq v2 c4_i32_251
  let c3_i32_249 : BitVec 32 := 3#32
  let v240 : BitVec 1 := Scalar.cmpi .eq v2 c3_i32_249
  let c2_i32_247 : BitVec 32 := 2#32
  let v238 : BitVec 1 := Scalar.cmpi .eq v2 c2_i32_247
  let c1_i32_244 : BitVec 32 := 1#32
  let v236 : BitVec 1 := Scalar.cmpi .eq v2 c1_i32_244
  let v237 : BitVec 32 := Scalar.select v236 c2_i32_245 c3_i32_246
  let v239 : BitVec 32 := Scalar.select v238 c1_i32_248 v237
  let v241 : BitVec 32 := Scalar.select v240 c0_i32_250 v239
  let v243 : BitVec 32 := Scalar.select v242 c7_i32_252 v241
  let v245 : BitVec 32 := Scalar.select v244 c6_i32_254 v243
  let v247 : BitVec 32 := Scalar.select v246 c5_i32_256 v245
  let v249 : BitVec 32 := Scalar.select v248 c4_i32_258 v247
  let c256_i32_720 : BitVec 32 := 256#32
  let v705 : BitVec 32 := Scalar.muli v249 c256_i32_720
  let v706 : BitVec 32 := Scalar.addi v705 c96_i32_721
  let v707 : Index := Scalar.indexCast v706
  let c0_722 : Index := 0#32
  ![v707.toNat, 0]
def k0_off8_at (r : Fin 14) : BitVec 32 × BitVec 32 × BitVec 32 × BitVec 32 × BitVec 32 × BitVec 32 × BitVec 32 × BitVec 32 × BitVec 32 :=
  if r.val < 7 then
    if r.val < 3 then
      if r.val < 1 then
        (4#32, 5#32, 6#32, 7#32, 0#32, 1#32, 2#32, 3#32, 96#32)
      else
        if r.val < 2 then
          (3#32, 2#32, 1#32, 0#32, 7#32, 6#32, 5#32, 4#32, 176#32)
        else
          (3#32, 2#32, 1#32, 0#32, 7#32, 6#32, 5#32, 4#32, 96#32)
    else
      if r.val < 5 then
        if r.val < 4 then
          (0#32, 1#32, 2#32, 3#32, 4#32, 5#32, 6#32, 7#32, 96#32)
        else
          (6#32, 7#32, 4#32, 5#32, 2#32, 3#32, 0#32, 1#32, 176#32)
      else
        if r.val < 6 then
          (2#32, 3#32, 0#32, 1#32, 6#32, 7#32, 4#32, 5#32, 176#32)
        else
          (6#32, 7#32, 4#32, 5#32, 2#32, 3#32, 0#32, 1#32, 96#32)
  else
    if r.val < 10 then
      if r.val < 8 then
        (4#32, 5#32, 6#32, 7#32, 0#32, 1#32, 2#32, 3#32, 176#32)
      else
        if r.val < 9 then
          (5#32, 4#32, 7#32, 6#32, 1#32, 0#32, 3#32, 2#32, 96#32)
        else
          (0#32, 1#32, 2#32, 3#32, 4#32, 5#32, 6#32, 7#32, 176#32)
    else
      if r.val < 12 then
        if r.val < 11 then
          (2#32, 3#32, 0#32, 1#32, 6#32, 7#32, 4#32, 5#32, 96#32)
        else
          (5#32, 4#32, 7#32, 6#32, 1#32, 0#32, 3#32, 2#32, 176#32)
      else
        if r.val < 13 then
          (1#32, 0#32, 3#32, 2#32, 5#32, 4#32, 7#32, 6#32, 96#32)
        else
          (1#32, 0#32, 3#32, 2#32, 5#32, 4#32, 7#32, 6#32, 176#32)
def k0_off9 (d0 : Dev nD) (c4_i32_258 : BitVec 32) (c5_i32_256 : BitVec 32) (c6_i32_254 : BitVec 32) (c7_i32_252 : BitVec 32) (c0_i32_250 : BitVec 32) (c1_i32_248 : BitVec 32) (c2_i32_245 : BitVec 32) (c3_i32_246 : BitVec 32) (c96_i32_721 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_257 : BitVec 32 := 7#32
  let v248 : BitVec 1 := Scalar.cmpi .eq v2 c7_i32_257
  let c6_i32_255 : BitVec 32 := 6#32
  let v246 : BitVec 1 := Scalar.cmpi .eq v2 c6_i32_255
  let c5_i32_253 : BitVec 32 := 5#32
  let v244 : BitVec 1 := Scalar.cmpi .eq v2 c5_i32_253
  let c4_i32_251 : BitVec 32 := 4#32
  let v242 : BitVec 1 := Scalar.cmpi .eq v2 c4_i32_251
  let c3_i32_249 : BitVec 32 := 3#32
  let v240 : BitVec 1 := Scalar.cmpi .eq v2 c3_i32_249
  let c2_i32_247 : BitVec 32 := 2#32
  let v238 : BitVec 1 := Scalar.cmpi .eq v2 c2_i32_247
  let c1_i32_244 : BitVec 32 := 1#32
  let v236 : BitVec 1 := Scalar.cmpi .eq v2 c1_i32_244
  let v237 : BitVec 32 := Scalar.select v236 c2_i32_245 c3_i32_246
  let v239 : BitVec 32 := Scalar.select v238 c1_i32_248 v237
  let v241 : BitVec 32 := Scalar.select v240 c0_i32_250 v239
  let v243 : BitVec 32 := Scalar.select v242 c7_i32_252 v241
  let v245 : BitVec 32 := Scalar.select v244 c6_i32_254 v243
  let v247 : BitVec 32 := Scalar.select v246 c5_i32_256 v245
  let v249 : BitVec 32 := Scalar.select v248 c4_i32_258 v247
  let c256_i32_720 : BitVec 32 := 256#32
  let v705 : BitVec 32 := Scalar.muli v249 c256_i32_720
  let v706 : BitVec 32 := Scalar.addi v705 c96_i32_721
  let v723 : Index := Scalar.indexCast v706
  let c0_728 : Index := 0#32
  ![v723.toNat, 0]
def k0_off9_at (r : Fin 14) : BitVec 32 × BitVec 32 × BitVec 32 × BitVec 32 × BitVec 32 × BitVec 32 × BitVec 32 × BitVec 32 × BitVec 32 :=
  if r.val < 7 then
    if r.val < 3 then
      if r.val < 1 then
        (4#32, 5#32, 6#32, 7#32, 0#32, 1#32, 2#32, 3#32, 96#32)
      else
        if r.val < 2 then
          (3#32, 2#32, 1#32, 0#32, 7#32, 6#32, 5#32, 4#32, 176#32)
        else
          (3#32, 2#32, 1#32, 0#32, 7#32, 6#32, 5#32, 4#32, 96#32)
    else
      if r.val < 5 then
        if r.val < 4 then
          (0#32, 1#32, 2#32, 3#32, 4#32, 5#32, 6#32, 7#32, 96#32)
        else
          (6#32, 7#32, 4#32, 5#32, 2#32, 3#32, 0#32, 1#32, 176#32)
      else
        if r.val < 6 then
          (2#32, 3#32, 0#32, 1#32, 6#32, 7#32, 4#32, 5#32, 176#32)
        else
          (6#32, 7#32, 4#32, 5#32, 2#32, 3#32, 0#32, 1#32, 96#32)
  else
    if r.val < 10 then
      if r.val < 8 then
        (4#32, 5#32, 6#32, 7#32, 0#32, 1#32, 2#32, 3#32, 176#32)
      else
        if r.val < 9 then
          (5#32, 4#32, 7#32, 6#32, 1#32, 0#32, 3#32, 2#32, 96#32)
        else
          (0#32, 1#32, 2#32, 3#32, 4#32, 5#32, 6#32, 7#32, 176#32)
    else
      if r.val < 12 then
        if r.val < 11 then
          (2#32, 3#32, 0#32, 1#32, 6#32, 7#32, 4#32, 5#32, 96#32)
        else
          (5#32, 4#32, 7#32, 6#32, 1#32, 0#32, 3#32, 2#32, 176#32)
      else
        if r.val < 13 then
          (1#32, 0#32, 3#32, 2#32, 5#32, 4#32, 7#32, 6#32, 96#32)
        else
          (1#32, 0#32, 3#32, 2#32, 5#32, 4#32, 7#32, 6#32, 176#32)
def k0_dev19 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v94 : BitVec 1 := Scalar.cmpi .eq v2 c7_i32_92
  let c3_i32_93 : BitVec 32 := 3#32
  let c6_i32_90 : BitVec 32 := 6#32
  let v92 : BitVec 1 := Scalar.cmpi .eq v2 c6_i32_90
  let c2_i32_91 : BitVec 32 := 2#32
  let c5_i32_88 : BitVec 32 := 5#32
  let v90 : BitVec 1 := Scalar.cmpi .eq v2 c5_i32_88
  let c1_i32_89 : BitVec 32 := 1#32
  let c4_i32_86 : BitVec 32 := 4#32
  let v88 : BitVec 1 := Scalar.cmpi .eq v2 c4_i32_86
  let c0_i32_87 : BitVec 32 := 0#32
  let c3_i32_84 : BitVec 32 := 3#32
  let v86 : BitVec 1 := Scalar.cmpi .eq v2 c3_i32_84
  let c7_i32_85 : BitVec 32 := 7#32
  let c2_i32_82 : BitVec 32 := 2#32
  let v84 : BitVec 1 := Scalar.cmpi .eq v2 c2_i32_82
  let c6_i32_83 : BitVec 32 := 6#32
  let c1_i32_79 : BitVec 32 := 1#32
  let v82 : BitVec 1 := Scalar.cmpi .eq v2 c1_i32_79
  let c5_i32_80 : BitVec 32 := 5#32
  let c4_i32_81 : BitVec 32 := 4#32
  let v83 : BitVec 32 := Scalar.select v82 c5_i32_80 c4_i32_81
  let v85 : BitVec 32 := Scalar.select v84 c6_i32_83 v83
  let v87 : BitVec 32 := Scalar.select v86 c7_i32_85 v85
  let v89 : BitVec 32 := Scalar.select v88 c0_i32_87 v87
  let v91 : BitVec 32 := Scalar.select v90 c1_i32_89 v89
  let v93 : BitVec 32 := Scalar.select v92 c2_i32_91 v91
  let v95 : BitVec 32 := Scalar.select v94 c3_i32_93 v93
  let c1_i32_758 : BitVec 32 := 1#32
  let v759 : BitVec 32 := Scalar.muli v95 c1_i32_758
  let v760 : BitVec 32 := Scalar.addi c0_i32_759 v759
  v760.toNat
def k0_dev20 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_242 : BitVec 32 := 7#32
  let v234 : BitVec 1 := Scalar.cmpi .eq v2 c7_i32_242
  let c6_i32_243 : BitVec 32 := 6#32
  let c6_i32_240 : BitVec 32 := 6#32
  let v232 : BitVec 1 := Scalar.cmpi .eq v2 c6_i32_240
  let c7_i32_241 : BitVec 32 := 7#32
  let c5_i32_238 : BitVec 32 := 5#32
  let v230 : BitVec 1 := Scalar.cmpi .eq v2 c5_i32_238
  let c4_i32_239 : BitVec 32 := 4#32
  let c4_i32_236 : BitVec 32 := 4#32
  let v228 : BitVec 1 := Scalar.cmpi .eq v2 c4_i32_236
  let c5_i32_237 : BitVec 32 := 5#32
  let c3_i32_234 : BitVec 32 := 3#32
  let v226 : BitVec 1 := Scalar.cmpi .eq v2 c3_i32_234
  let c2_i32_235 : BitVec 32 := 2#32
  let c2_i32_232 : BitVec 32 := 2#32
  let v224 : BitVec 1 := Scalar.cmpi .eq v2 c2_i32_232
  let c3_i32_233 : BitVec 32 := 3#32
  let c1_i32_229 : BitVec 32 := 1#32
  let v222 : BitVec 1 := Scalar.cmpi .eq v2 c1_i32_229
  let c0_i32_230 : BitVec 32 := 0#32
  let c1_i32_231 : BitVec 32 := 1#32
  let v223 : BitVec 32 := Scalar.select v222 c0_i32_230 c1_i32_231
  let v225 : BitVec 32 := Scalar.select v224 c3_i32_233 v223
  let v227 : BitVec 32 := Scalar.select v226 c2_i32_235 v225
  let v229 : BitVec 32 := Scalar.select v228 c5_i32_237 v227
  let v231 : BitVec 32 := Scalar.select v230 c4_i32_239 v229
  let v233 : BitVec 32 := Scalar.select v232 c7_i32_241 v231
  let v235 : BitVec 32 := Scalar.select v234 c6_i32_243 v233
  let c1_i32_782 : BitVec 32 := 1#32
  let v781 : BitVec 32 := Scalar.muli v235 c1_i32_782
  let v782 : BitVec 32 := Scalar.addi c0_i32_783 v781
  v782.toNat
def k0_dev21 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_392 : BitVec 32 := 7#32
  let v374 : BitVec 1 := Scalar.cmpi .eq v2 c7_i32_392
  let c4_i32_393 : BitVec 32 := 4#32
  let c6_i32_390 : BitVec 32 := 6#32
  let v372 : BitVec 1 := Scalar.cmpi .eq v2 c6_i32_390
  let c5_i32_391 : BitVec 32 := 5#32
  let c5_i32_388 : BitVec 32 := 5#32
  let v370 : BitVec 1 := Scalar.cmpi .eq v2 c5_i32_388
  let c6_i32_389 : BitVec 32 := 6#32
  let c4_i32_386 : BitVec 32 := 4#32
  let v368 : BitVec 1 := Scalar.cmpi .eq v2 c4_i32_386
  let c7_i32_387 : BitVec 32 := 7#32
  let c3_i32_384 : BitVec 32 := 3#32
  let v366 : BitVec 1 := Scalar.cmpi .eq v2 c3_i32_384
  let c0_i32_385 : BitVec 32 := 0#32
  let c2_i32_382 : BitVec 32 := 2#32
  let v364 : BitVec 1 := Scalar.cmpi .eq v2 c2_i32_382
  let c1_i32_383 : BitVec 32 := 1#32
  let c1_i32_379 : BitVec 32 := 1#32
  let v362 : BitVec 1 := Scalar.cmpi .eq v2 c1_i32_379
  let c2_i32_380 : BitVec 32 := 2#32
  let c3_i32_381 : BitVec 32 := 3#32
  let v363 : BitVec 32 := Scalar.select v362 c2_i32_380 c3_i32_381
  let v365 : BitVec 32 := Scalar.select v364 c1_i32_383 v363
  let v367 : BitVec 32 := Scalar.select v366 c0_i32_385 v365
  let v369 : BitVec 32 := Scalar.select v368 c7_i32_387 v367
  let v371 : BitVec 32 := Scalar.select v370 c6_i32_389 v369
  let v373 : BitVec 32 := Scalar.select v372 c5_i32_391 v371
  let v375 : BitVec 32 := Scalar.select v374 c4_i32_393 v373
  let c1_i32_806 : BitVec 32 := 1#32
  let v803 : BitVec 32 := Scalar.muli v375 c1_i32_806
  let v804 : BitVec 32 := Scalar.addi c0_i32_807 v803
  v804.toNat
def k0_dev22 (d0 : Dev nD) : Nat :=
  let c0_i32_831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v94 : BitVec 1 := Scalar.cmpi .eq v2 c7_i32_92
  let c3_i32_93 : BitVec 32 := 3#32
  let c6_i32_90 : BitVec 32 := 6#32
  let v92 : BitVec 1 := Scalar.cmpi .eq v2 c6_i32_90
  let c2_i32_91 : BitVec 32 := 2#32
  let c5_i32_88 : BitVec 32 := 5#32
  let v90 : BitVec 1 := Scalar.cmpi .eq v2 c5_i32_88
  let c1_i32_89 : BitVec 32 := 1#32
  let c4_i32_86 : BitVec 32 := 4#32
  let v88 : BitVec 1 := Scalar.cmpi .eq v2 c4_i32_86
  let c0_i32_87 : BitVec 32 := 0#32
  let c3_i32_84 : BitVec 32 := 3#32
  let v86 : BitVec 1 := Scalar.cmpi .eq v2 c3_i32_84
  let c7_i32_85 : BitVec 32 := 7#32
  let c2_i32_82 : BitVec 32 := 2#32
  let v84 : BitVec 1 := Scalar.cmpi .eq v2 c2_i32_82
  let c6_i32_83 : BitVec 32 := 6#32
  let c1_i32_79 : BitVec 32 := 1#32
  let v82 : BitVec 1 := Scalar.cmpi .eq v2 c1_i32_79
  let c5_i32_80 : BitVec 32 := 5#32
  let c4_i32_81 : BitVec 32 := 4#32
  let v83 : BitVec 32 := Scalar.select v82 c5_i32_80 c4_i32_81
  let v85 : BitVec 32 := Scalar.select v84 c6_i32_83 v83
  let v87 : BitVec 32 := Scalar.select v86 c7_i32_85 v85
  let v89 : BitVec 32 := Scalar.select v88 c0_i32_87 v87
  let v91 : BitVec 32 := Scalar.select v90 c1_i32_89 v89
  let v93 : BitVec 32 := Scalar.select v92 c2_i32_91 v91
  let v95 : BitVec 32 := Scalar.select v94 c3_i32_93 v93
  let c1_i32_830 : BitVec 32 := 1#32
  let v825 : BitVec 32 := Scalar.muli v95 c1_i32_830
  let v826 : BitVec 32 := Scalar.addi c0_i32_831 v825
  v826.toNat
def k0_dev23 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_242 : BitVec 32 := 7#32
  let v234 : BitVec 1 := Scalar.cmpi .eq v2 c7_i32_242
  let c6_i32_243 : BitVec 32 := 6#32
  let c6_i32_240 : BitVec 32 := 6#32
  let v232 : BitVec 1 := Scalar.cmpi .eq v2 c6_i32_240
  let c7_i32_241 : BitVec 32 := 7#32
  let c5_i32_238 : BitVec 32 := 5#32
  let v230 : BitVec 1 := Scalar.cmpi .eq v2 c5_i32_238
  let c4_i32_239 : BitVec 32 := 4#32
  let c4_i32_236 : BitVec 32 := 4#32
  let v228 : BitVec 1 := Scalar.cmpi .eq v2 c4_i32_236
  let c5_i32_237 : BitVec 32 := 5#32
  let c3_i32_234 : BitVec 32 := 3#32
  let v226 : BitVec 1 := Scalar.cmpi .eq v2 c3_i32_234
  let c2_i32_235 : BitVec 32 := 2#32
  let c2_i32_232 : BitVec 32 := 2#32
  let v224 : BitVec 1 := Scalar.cmpi .eq v2 c2_i32_232
  let c3_i32_233 : BitVec 32 := 3#32
  let c1_i32_229 : BitVec 32 := 1#32
  let v222 : BitVec 1 := Scalar.cmpi .eq v2 c1_i32_229
  let c0_i32_230 : BitVec 32 := 0#32
  let c1_i32_231 : BitVec 32 := 1#32
  let v223 : BitVec 32 := Scalar.select v222 c0_i32_230 c1_i32_231
  let v225 : BitVec 32 := Scalar.select v224 c3_i32_233 v223
  let v227 : BitVec 32 := Scalar.select v226 c2_i32_235 v225
  let v229 : BitVec 32 := Scalar.select v228 c5_i32_237 v227
  let v231 : BitVec 32 := Scalar.select v230 c4_i32_239 v229
  let v233 : BitVec 32 := Scalar.select v232 c7_i32_241 v231
  let v235 : BitVec 32 := Scalar.select v234 c6_i32_243 v233
  let c1_i32_854 : BitVec 32 := 1#32
  let v847 : BitVec 32 := Scalar.muli v235 c1_i32_854
  let v848 : BitVec 32 := Scalar.addi c0_i32_855 v847
  v848.toNat
def k0_dev24 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_392 : BitVec 32 := 7#32
  let v374 : BitVec 1 := Scalar.cmpi .eq v2 c7_i32_392
  let c4_i32_393 : BitVec 32 := 4#32
  let c6_i32_390 : BitVec 32 := 6#32
  let v372 : BitVec 1 := Scalar.cmpi .eq v2 c6_i32_390
  let c5_i32_391 : BitVec 32 := 5#32
  let c5_i32_388 : BitVec 32 := 5#32
  let v370 : BitVec 1 := Scalar.cmpi .eq v2 c5_i32_388
  let c6_i32_389 : BitVec 32 := 6#32
  let c4_i32_386 : BitVec 32 := 4#32
  let v368 : BitVec 1 := Scalar.cmpi .eq v2 c4_i32_386
  let c7_i32_387 : BitVec 32 := 7#32
  let c3_i32_384 : BitVec 32 := 3#32
  let v366 : BitVec 1 := Scalar.cmpi .eq v2 c3_i32_384
  let c0_i32_385 : BitVec 32 := 0#32
  let c2_i32_382 : BitVec 32 := 2#32
  let v364 : BitVec 1 := Scalar.cmpi .eq v2 c2_i32_382
  let c1_i32_383 : BitVec 32 := 1#32
  let c1_i32_379 : BitVec 32 := 1#32
  let v362 : BitVec 1 := Scalar.cmpi .eq v2 c1_i32_379
  let c2_i32_380 : BitVec 32 := 2#32
  let c3_i32_381 : BitVec 32 := 3#32
  let v363 : BitVec 32 := Scalar.select v362 c2_i32_380 c3_i32_381
  let v365 : BitVec 32 := Scalar.select v364 c1_i32_383 v363
  let v367 : BitVec 32 := Scalar.select v366 c0_i32_385 v365
  let v369 : BitVec 32 := Scalar.select v368 c7_i32_387 v367
  let v371 : BitVec 32 := Scalar.select v370 c6_i32_389 v369
  let v373 : BitVec 32 := Scalar.select v372 c5_i32_391 v371
  let v375 : BitVec 32 := Scalar.select v374 c4_i32_393 v373
  let c1_i32_878 : BitVec 32 := 1#32
  let v869 : BitVec 32 := Scalar.muli v375 c1_i32_878
  let v870 : BitVec 32 := Scalar.addi c0_i32_879 v869
  v870.toNat
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Common.lean ====
/-
# The cube all-gather: the protocol

Eight devices sit on a cube. Device `c` has a neighbour along each of three axes, `peer a c`; the three moves commute and
each undoes itself. The rows of a device's block of `x` are cut into three streams (96, 80 and 80 rows). Stream `s` travels
along the axes `s`, `s + 1`, `s + 2` (modulo 3), in seven messages:

* messages 0, 1, 2 carry the sender's own rows along the stream's first, second and third axis;
* messages 3 and 4 carry on, along the second and the third axis, what message 0 brought;
* message 5 carries on, along the third axis, what message 1 brought;
* message 6 carries on, along the third axis, what message 3 brought.

So each device receives every other device's rows once, each into the rows of its gather buffer that belong to the
rows' origin, and a piece of the gather buffer is written once and read only after it has landed.

A device first signals its three neighbours' barrier cells and waits for three units on its own: each neighbour's unit
hands over the pieces of that neighbour's gather buffer that this device will write. A message's receive cell hands over
the landed piece; its send cell hands back the share of the source that was lent.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's copy of the rounds algebra and this kernel's, whose duties are named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The cube -/

/-- A message: its stream and its number in the stream. -/
abbrev Msg : Type := Fin 3 × Fin 7

/-- The neighbour of a device along an axis. -/
def peer (a : Fin 3) (c : Dev nD) : Dev nD :=
  (![![1, 0, 3, 2, 5, 4, 7, 6], ![3, 2, 1, 0, 7, 6, 5, 4], ![4, 5, 6, 7, 0, 1, 2, 3]] : Fin 3 → Fin 8 → Fin 8) a c

theorem peer_peer (a : Fin 3) (c : Dev nD) : peer a (peer a c) = c := by revert a c; decide

/-- The axis a message travels along. -/
def dirOf (μ : Msg) : Fin 3 := μ.1 + (![0, 1, 2, 1, 2, 2, 2] : Fin 7 → Fin 3) μ.2

/-- Where device `c` sends a message; the message of that name that `c` receives comes from there too. -/
def dst (μ : Msg) (c : Dev nD) : Dev nD := peer (dirOf μ) c

theorem dst_dst (μ : Msg) (c : Dev nD) : dst μ (dst μ c) = c := peer_peer _ _

/-- Whose rows the message that device `c` receives carries. -/
def org (μ : Msg) (c : Dev nD) : Dev nD :=
  (![peer μ.1 c, peer (μ.1 + 1) c, peer (μ.1 + 2) c, peer μ.1 (peer (μ.1 + 1) c), peer μ.1 (peer (μ.1 + 2) c),
    peer (μ.1 + 1) (peer (μ.1 + 2) c), peer μ.1 (peer (μ.1 + 1) (peer (μ.1 + 2) c))] : Fin 7 → Dev nD) μ.2

/-- The message that brought what a message numbered 3 to 6 carries on. -/
def pred (μ : Msg) : Msg := (μ.1, (![0, 0, 0, 0, 0, 1, 3] : Fin 7 → Fin 7) μ.2)

/-- A message numbered 0, 1, 2 carries the sender's rows. -/
theorem org_own (μ : Msg) (c : Dev nD) (h : μ.2.val < 3) : org μ (dst μ c) = c := by
  obtain ⟨s, j⟩ := μ; revert s j c; decide
/-- A later one carries the rows its predecessor brought. -/
theorem org_fwd (μ : Msg) (c : Dev nD) (h : ¬ μ.2.val < 3) : org μ (dst μ c) = org (pred μ) c := by
  obtain ⟨s, j⟩ := μ; revert s j c; decide

/-- A stream's first row in a block, and how many rows it has. -/
def off (s : Fin 3) : ℕ := (![0, 96, 176] : Fin 3 → ℕ) s
def rows (s : Fin 3) : ℕ := (![96, 80, 80] : Fin 3 → ℕ) s

/-! ## Cells -/

/-- The staging buffers and the gather buffer. -/
abbrev xM : Memref sig .tc .vmem S256x2048 .f32 := Memref.whole cc0_stg0_0
abbrev wM : Memref sig .tc .vmem S2048x256 .f32 := Memref.whole cc0_stg1_0
abbrev oM : Memref sig .tc .vmem S2048x256 .f32 := Memref.whole cc0_stg2_0
abbrev gM : Memref sig .tc .vmem S2048x2048 .f32 := Memref.whole cc0_scratch0

/-- A device's cells: its barrier cell, and each message's send and receive cell. -/
abbrev Cell : Type := Unit ⊕ (Msg ⊕ Msg)
abbrev Cell.bar : Cell := Sum.inl ()
abbrev Cell.snd (μ : Msg) : Cell := Sum.inr (Sum.inl μ)
abbrev Cell.rcv (μ : Msg) : Cell := Sum.inr (Sum.inr μ)

abbrev barS : Sem sig := (SemArray.scalar (sig.barrier 0 rfl) : Sems sig S_).sem

/-- The place of a message's semaphore in its array. -/
def num (μ : Msg) : Fin 21 := ⟨7 * μ.1.val + μ.2.val, by obtain ⟨s, j⟩ := μ; revert s j; decide⟩

def sndS (μ : Msg) : DmaSem sig := (⟨3 + (num μ).val, by have := (num μ).isLt; omega⟩ : Fin 45)
def rcvS (μ : Msg) : DmaSem sig := (⟨24 + (num μ).val, by have := (num μ).isLt; omega⟩ : Fin 45)

/-- The semaphore of a cell. -/
def csem : Cell → SemLoc sig
  | .inl _ => .reg barS
  | .inr (.inl μ) => .dma (sndS μ)
  | .inr (.inr μ) => .dma (rcvS μ)

abbrev kcell (ck : Dev nD × Cell) : GSem nD τ sig := ((ck.1 : Thread nD τ), csem ck.2)
abbrev barCell (c : Dev nD) : GSem nD τ sig := kcell (c, Cell.bar)
abbrev sndCell (μ : Msg) (c : Dev nD) : GSem nD τ sig := kcell (c, Cell.snd μ)
abbrev rcvCell (μ : Msg) (c : Dev nD) : GSem nD τ sig := kcell (c, Cell.rcv μ)

/-- The message whose place is `n`. -/
def msgAt (n : Fin 21) : Msg := (⟨n.val / 7, by omega⟩, ⟨n.val % 7, by omega⟩)

/-- The cell a semaphore is, if it is one of this kernel's. -/
def dec : SemLoc sig → Option Cell
  | .reg _ => some Cell.bar
  | .dma q =>
      if h : 3 ≤ (show Fin 45 from q).val ∧ (show Fin 45 from q).val < 24 then some (Cell.snd (msgAt ⟨(show Fin 45 from q).val - 3, by omega⟩))
      else if h : 24 ≤ (show Fin 45 from q).val then
        some (Cell.rcv (msgAt ⟨(show Fin 45 from q).val - 24, by have := (show Fin 45 from q).isLt; omega⟩))
      else none

theorem dec_csem (k : Cell) : dec (csem k) = some k := by revert k; decide

theorem csem_injective : Function.Injective csem := fun a b h => by
  have h' := congrArg dec h; rw [dec_csem, dec_csem] at h'; exact Option.some.inj h'

end Cert.KernelIdeal.Cube

end
-- ==== Proof.KernelIdeal.Sched.lean ====
/-
# The cube all-gather: contents, pieces, shares, and the schedule

The gather buffer's landed contents are one function on every device: row `r` is row `r % 256` of device `r / 256`'s block.
So a piece of it, once landed, holds that function's restriction wherever it is.

Every send lends a share of its source, which the send cell hands back. A device's own rows of a stream are lent three
times at once, and what message 0 brought twice, while the device reads them; `lsh` and `ksh` are the shares lent and kept.
-/
module

public import proofs.«01_k».proof.Proof.KernelIdeal.Common
public import Idealize.ShloMosaic.Lib.Pipeline.BigSepL

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s block of `x` and of `w`, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Row `r` of all the blocks of `x` laid one below the other. -/
def xrow (r : ℕ) (q : Fin 2048) : Elt F .f32 :=
  xstg m ρ (⟨r / 256 % 8, Nat.mod_lt _ (by decide)⟩ : Fin 8)
    (Shape.pair (d := ![256, 2048]) (⟨r % 256, Nat.mod_lt _ (by decide)⟩ : Fin 256) q)

/-- The gather buffer's landed contents. -/
def gath : (cc0_scratch0 : Ref sig .tc).ty.Contents (Elt F) :=
  fun i => xrow m ρ ((show S2048x2048.Idx from i) 0).val ((show S2048x2048.Idx from i) 1)

/-! ## Pieces -/

/-- The rows `r ≤ · < r + n`, of a block of `x` and of the gather buffer. -/
def xband (r n : ℕ) : Finset S256x2048.Idx := Finset.univ.filter fun i => r ≤ (i 0).val ∧ (i 0).val < r + n
def gband (r n : ℕ) : Finset S2048x2048.Idx := Finset.univ.filter fun i => r ≤ (i 0).val ∧ (i 0).val < r + n

/-- A stream's rows of a block, and of the rows of the gather buffer that belong to device `o`. -/
abbrev xset (s : Fin 3) : Finset S256x2048.Idx := xband (off s) (rows s)
abbrev gset (s : Fin 3) (o : Dev nD) : Finset S2048x2048.Idx := gband (256 * o.val + off s) (rows s)

abbrev xloc (c : Dev nD) : Loc nD τ sig := (c : Thread nD τ).loc cc0_stg0_0
abbrev wloc (c : Dev nD) : Loc nD τ sig := (c : Thread nD τ).loc cc0_stg1_0
abbrev oloc (c : Dev nD) : Loc nD τ sig := (c : Thread nD τ).loc cc0_stg2_0
abbrev gloc (c : Dev nD) : Loc nD τ sig := (c : Thread nD τ).loc cc0_scratch0

/-- Device `c`'s own rows of a stream at a share; -/
def xAt (s : Fin 3) (c : Dev nD) (q : PosShare TreeShare) : sProp 𝕄 := xloc c ↦[xset s]{q} xstg m ρ c
/-- device `o`'s rows of a stream, landed on device `c`, at a share; -/
def gAt (s : Fin 3) (o c : Dev nD) (q : PosShare TreeShare) : sProp 𝕄 := gloc c ↦[gset s o]{q} gath m ρ
/-- the same place, whole, holding anything. -/
def raw (s : Fin 3) (o c : Dev nD) : sProp 𝕄 := iprop(∃ f, gloc c ↦[gset s o]{fullShare} f)

omit [FloatOps F] in
instance xAt_storable (s c q) : BI.Storable (upEmb : UEmb _ 𝕄) (xAt (F := F) m ρ s c q) := by unfold xAt; infer_instance
omit [FloatOps F] in
instance gAt_storable (s o c q) : BI.Storable (upEmb : UEmb _ 𝕄) (gAt (F := F) m ρ s o c q) := by unfold gAt; infer_instance
omit [FloatOps F] in
instance raw_storable (s o c) : BI.Storable (upEmb : UEmb _ 𝕄) (raw (F := F) s o c) := by unfold raw; infer_instance

/-! ## Shares -/

/-- The share of its source a message lends, and the share of what it brought that its receiver keeps. -/
def lsh (j : Fin 7) : PosShare TreeShare :=
  (![fullShare.right.left, fullShare.right.right.left, fullShare.right.right.right, fullShare.right.left, fullShare.right.right,
    fullShare.right, fullShare.right] : Fin 7 → PosShare TreeShare) j
def ksh (j : Fin 7) : PosShare TreeShare :=
  (![fullShare.left, fullShare.left, fullShare, fullShare.left, fullShare, fullShare, fullShare] : Fin 7 → PosShare TreeShare) j

/-- What message `μ` lends on device `c`; -/
def lent (c : Dev nD) (μ : Msg) : sProp 𝕄 :=
  if μ.2.val < 3 then xAt m ρ μ.1 c (lsh μ.2) else gAt m ρ μ.1 (org (pred μ) c) c (lsh μ.2)
/-- what message `μ` lands on device `c`; -/
def land (c : Dev nD) (μ : Msg) : sProp 𝕄 := gAt m ρ μ.1 (org μ c) c fullShare
/-- what device `c` keeps of it. -/
def kept (c : Dev nD) (μ : Msg) : sProp 𝕄 := gAt m ρ μ.1 (org μ c) c (ksh μ.2)
/-- where message `μ` of device `c` will land: whole, holding anything. -/
def slot (c : Dev nD) (μ : Msg) : sProp 𝕄 := raw (F := F) μ.1 (org μ (dst μ c)) (dst μ c)

omit [FloatOps F] in
instance lent_storable (c μ) : BI.Storable (upEmb : UEmb _ 𝕄) (lent (F := F) m ρ c μ) := by unfold lent; split <;> infer_instance
omit [FloatOps F] in
instance land_storable (c μ) : BI.Storable (upEmb : UEmb _ 𝕄) (land (F := F) m ρ c μ) := by unfold land; infer_instance
omit [FloatOps F] in
instance slot_storable (c μ) : BI.Storable (upEmb : UEmb _ 𝕄) (slot (F := F) c μ) := by unfold slot; infer_instance

omit [FloatOps F] in
instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

/-! ## The schedule -/

/-- The messages along an axis. -/
def along (a : Fin 3) : List Msg := (List.finRange 3 ×ˢ List.finRange 7).filter fun μ => dirOf μ = a

/-- A message's credit: that of its stream's rows. -/
abbrev N96 : ℕ := (gM.slice (Rect.unit (s := S2048x2048) ![0, 0] S96x2048.size (by decide)) (fun _ => rfl)).view.dmaCredit
abbrev N80 : ℕ := (gM.slice (Rect.unit (s := S2048x2048) ![0, 0] S80x2048.size (by decide)) (fun _ => rfl)).view.dmaCredit
def cr (s : Fin 3) : ℕ := (![N96, N80, N80] : Fin 3 → ℕ) s

theorem cr_pos (s : Fin 3) : 0 < cr s := by
  have h96 : 0 < N96 := View.dmaCredit_pos _ (by decide)
  have h80 : 0 < N80 := View.dmaCredit_pos _ (by decide)
  fin_cases s
  · exact h96
  · exact h80
  · exact h80

/-- The duties, amounts and payloads of a cell by its name. -/
def kduties : Option Cell → Finset (Fin 3)
  | some (.inl _) => Finset.univ
  | some (.inr _) => {0}
  | none => ∅
def kamount : Option Cell → ℕ
  | some (.inr (.inl μ)) => cr μ.1
  | some (.inr (.inr μ)) => cr μ.1
  | _ => 1
def kpayload (c : Dev nD) (a : Fin 3) : Option Cell → sProp 𝕄
  | some (.inl _) => bigSepL (along a) (slot c)
  | some (.inr (.inl μ)) => lent m ρ c μ
  | some (.inr (.inr μ)) => land m ρ c μ
  | none => iprop(emp)

/-- One round. A barrier cell has a duty per axis, paid by the neighbour along it, of one unit, handing over the slots of the
    messages along that axis. A send cell has one duty, handing back what was lent; a receive cell one, handing over what landed. -/
def rd : Rounds.Schedule (GSem nD τ sig) (Fin 3) 𝕄 where
  duties g r := if r = 0 ∧ g.1.2 = .tc then kduties (dec g.2) else ∅
  unitless _ := False
  amount g _ _ := kamount (dec g.2)
  payload g _ a := kpayload m ρ g.1.1 a (dec g.2)
  amount_pos g _ _ _ := by
    rcases dec g.2 with _ | _ | _ | _
    · exact Nat.one_pos
    · exact Nat.one_pos
    · exact cr_pos _
    · exact cr_pos _

instance rd_payload_storable (g : GSem nD τ sig) (r : ℕ) (d : Fin 3) :
    BI.Storable (upEmb : UEmb _ 𝕄) ((rd (F := F) m ρ).payload g r d) := by
  show BI.Storable upEmb (kpayload m ρ g.1.1 d (dec g.2))
  rcases dec g.2 with _ | _ | _ | _ <;> dsimp only [kpayload] <;> infer_instance

section Sched
variable (c : Dev nD) (μ : Msg)

omit [FloatOps F] in
theorem duties_cell (k : Cell) : (rd (F := F) m ρ).duties (kcell (c, k)) 0 = kduties (some k) := by
  dsimp only [rd]; rw [dec_csem]; exact if_pos ⟨rfl, rfl⟩
omit [FloatOps F] in
theorem duties_later (g : GSem nD τ sig) : ∀ r, 1 ≤ r → (rd (F := F) m ρ).duties g r = ∅ :=
  fun r hr => if_neg fun h => by omega
omit [FloatOps F] in
theorem amount_cell (k : Cell) (d : Fin 3) : (rd (F := F) m ρ).amount (kcell (c, k)) 0 d = kamount (some k) := by
  dsimp only [rd]; rw [dec_csem]
omit [FloatOps F] in
theorem payload_cell (k : Cell) (d : Fin 3) : (rd (F := F) m ρ).payload (kcell (c, k)) 0 d = kpayload m ρ c d (some k) := by
  dsimp only [rd]; rw [dec_csem]

omit [FloatOps F] in
theorem expect_bar : (rd (F := F) m ρ).expect (barCell c) 0 = 3 := by
  unfold Schedule.expect Schedule.amountOf
  rw [duties_cell, Finset.sum_congr rfl fun d _ => amount_cell m ρ c _ d]
  rfl
omit [FloatOps F] in
theorem expect_snd : (rd (F := F) m ρ).expect (sndCell μ c) 0 = cr μ.1 := by
  unfold Schedule.expect Schedule.amountOf
  rw [duties_cell, Finset.sum_congr rfl fun d _ => amount_cell m ρ c _ d]
  exact Finset.sum_singleton _ _
omit [FloatOps F] in
theorem expect_rcv : (rd (F := F) m ρ).expect (rcvCell μ c) 0 = cr μ.1 := by
  unfold Schedule.expect Schedule.amountOf
  rw [duties_cell, Finset.sum_congr rfl fun d _ => amount_cell m ρ c _ d]
  exact Finset.sum_singleton _ _

omit [FloatOps F] in
/-- The barrier cell's round hands over the slots of all the messages, axis by axis. -/
theorem rest_bar : bigSep ((rd (F := F) m ρ).duties (barCell c) 0 \ ∅) (fun d => (rd (F := F) m ρ).payload (barCell c) 0 d)
    = bigSepL (along 0 ++ (along 1 ++ along 2)) (slot c) := by
  rw [Finset.sdiff_empty, duties_cell, bigSep_congr fun d _ => payload_cell m ρ c _ d, bigSepL_append, bigSepL_append]
  show bigSep Finset.univ (fun a => bigSepL (along a) (slot c)) = _
  rw [bigSep_univ_eq_bigSepL [0, 1, 2] (by decide) (by decide), bigSepL_cons_cons, bigSepL_cons_cons,
    bigSepL_singleton]
  rfl
omit [FloatOps F] in
/-- A send cell's round hands back what was lent, -/
theorem rest_snd : bigSep ((rd (F := F) m ρ).duties (sndCell μ c) 0 \ ∅) (fun d => (rd (F := F) m ρ).payload (sndCell μ c) 0 d)
    = lent m ρ c μ := by
  rw [Finset.sdiff_empty, duties_cell, bigSep_congr fun d _ => payload_cell m ρ c _ d]
  exact bigSep_singleton
omit [FloatOps F] in
/-- and a receive cell's what landed. -/
theorem rest_rcv : bigSep ((rd (F := F) m ρ).duties (rcvCell μ c) 0 \ ∅) (fun d => (rd (F := F) m ρ).payload (rcvCell μ c) 0 d)
    = land m ρ c μ := by
  rw [Finset.sdiff_empty, duties_cell, bigSep_congr fun d _ => payload_cell m ρ c _ d]
  exact bigSep_singleton

end Sched

/-! ## What each device owes; the levels -/

/-- What a device still owes the receive cells while it has the messages `T` to send, the next one first. -/
def owe (c : Dev nD) : List Msg → CellTallies nD τ sig Unit
  | [] => 0
  | μ :: T => owe c T + tallyAt (rcvCell μ (dst μ c)) () (cr μ.1)

/-- The messages in the order a device sends them. -/
def order : List Msg :=
  [(0, 0), (1, 0), (2, 0), (0, 1), (1, 1), (2, 1), (0, 2), (1, 2), (2, 2), (0, 3), (0, 4), (1, 3), (1, 4), (2, 3), (2, 4),
    (0, 5), (1, 5), (2, 5), (0, 6), (1, 6), (2, 6)]

theorem order_nodup : order.Nodup := by decide
theorem order_univ : (Finset.univ : Finset Msg) = order.toFinset := by decide

/-- At launch a device owes every message's credit and its neighbours' barrier units, the first one it pays last. -/
def O₀ (c : Dev nD) : CellTallies nD τ sig Unit :=
  owe c order + tallyAt (barCell (peer 2 c)) () 1 + tallyAt (barCell (peer 1 c)) () 1 + tallyAt (barCell (peer 0 c)) () 1

def L (g : GSem nD τ sig) : Finset Unit := if g.1.2 = .tc then {()} else ∅

/-- Staging and send cells are at level 0, barrier cells at 1; a receive cell is above all that is waited for before its message
    is sent. -/
def klev : Option Cell → ℕ
  | some (.inl _) => 1
  | some (.inr (.inr μ)) => (![2, 2, 2, 3, 4, 4, 4] : Fin 7 → ℕ) μ.2
  | _ => 0
def lv (g : GSem nD τ sig) (_ : Unit) : ℕ := klev (dec g.2)

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {T : List Msg} {g : GSem nD τ sig} {u : Unit} (h : 0 < owe c T g u) :
    ∃ μ ∈ T, g = rcvCell μ (dst μ c) := by
  induction T with
  | nil => exact absurd h (Nat.lt_irrefl 0)
  | cons μ T ih =>
    unfold owe at h
    rw [Pi.add_apply, Finsupp.add_apply, tallyAt_apply] at h
    by_cases hg : g = rcvCell μ (dst μ c) ∧ u = ()
    · exact ⟨μ, List.mem_cons_self, hg.1⟩
    · rw [if_neg hg, Nat.add_zero] at h
      obtain ⟨ν, hν, e⟩ := ih h
      exact ⟨ν, List.mem_cons_of_mem _ hν, e⟩

theorem O₀_pos {c : Dev nD} {g : GSem nD τ sig} {u : Unit} (h : 0 < O₀ c g u) :
    (∃ μ ∈ order, g = rcvCell μ (dst μ c)) ∨ ∃ a, g = barCell (peer a c) := by
  unfold O₀ at h
  generalize order = T at h ⊢
  rw [Pi.add_apply, Finsupp.add_apply, Pi.add_apply, Finsupp.add_apply, Pi.add_apply, Finsupp.add_apply, tallyAt_apply, tallyAt_apply,
    tallyAt_apply] at h
  by_contra hn
  rw [not_or] at hn
  rw [if_neg (fun h' => hn.2 ⟨2, h'.1⟩), if_neg (fun h' => hn.2 ⟨1, h'.1⟩), if_neg (fun h' => hn.2 ⟨0, h'.1⟩)] at h
  exact hn.1 (owe_pos h)

omit [FloatOps F] in
/-- A device may wait on a cell that is below the receive cells of all the messages it has still to send. -/
theorem mayWait_owe (c : Dev nD) (sm : SemLoc sig) (T : List Msg) (h : ∀ μ ∈ T, klev (dec sm) < klev (some (Cell.rcv μ))) :
    (levAts L lv : sProp 𝕄) ⊢ MayWait (c : Thread nD τ) sm () (owe c T) :=
  MayOwe.of_cut (L := L) (lev := lv) (klev (dec sm)) (fun p hp => by rw [Finset.mem_singleton.mp hp, L_tc]; exact Finset.mem_singleton_self _)
    (fun g u hg => by obtain ⟨μ, -, rfl⟩ := owe_pos hg; exact Finset.mem_singleton_self _)
    (fun p hp => by rw [Finset.mem_singleton.mp hp]; exact le_rfl)
    (fun g u hg => by obtain ⟨μ, hμ, rfl⟩ := owe_pos hg; dsimp only [lv]; rw [dec_csem]; exact h μ hμ)

omit [FloatOps F] in
/-- A device may wait on a staging cell whenever it owes all or nothing. -/
theorem mayWait_stage (c : Dev nD) (q : DmaSem sig) (hq : klev (dec (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨μ, -, rfl⟩ | ⟨a, rfl⟩ <;> exact Finset.mem_singleton_self _)
      (fun p hp => by rw [Finset.mem_singleton.mp hp]; exact hq.le)
      (fun g u hg => by
        rcases O₀_pos hg with ⟨μ, -, rfl⟩ | ⟨a, rfl⟩
        · dsimp only [lv]; rw [dec_csem]; clear hg; obtain ⟨s, j⟩ := μ; revert s j; decide
        · exact Nat.one_pos)
  · rw [MayWait_zero]; iintro -; iempintro

end Cert.KernelIdeal.Cube

end
-- ==== Proof.KernelIdeal.Steps.lean ====
/-
# The cube all-gather: one step of a device's program at a time

What a device holds between two operations is `St`, whose arguments are lists of messages: still to be sent, in flight,
returned, lendable, still to be received, received; and the parts of the result already stored. Each lemma here takes one
kind of operation at the head of a program off: a transfer of own rows, a transfer of landed rows, a wait on a receive cell,
a wait on a send cell, a load, a store.
-/
module

public import proofs.«01_k».proof.Proof.KernelIdeal.Sched

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Views -/

abbrev xview (off sz : Fin 2 → ℕ) (inb : ∀ a, off a + sz a ≤ S256x2048.size a) : Memref sig .tc .vmem ⟨2, sz⟩ .f32 :=
  xM.slice (Rect.unit (s := S256x2048) off sz inb) (fun _ => rfl)
abbrev gview (off sz : Fin 2 → ℕ) (inb : ∀ a, off a + sz a ≤ S2048x2048.size a) : Memref sig .tc .vmem ⟨2, sz⟩ .f32 :=
  gM.slice (Rect.unit (s := S2048x2048) off sz inb) (fun _ => rfl)

theorem set_xview (r n : ℕ) (inb) : (xview ![r, 0] ![n, 2048] inb).view.set = xband r n := by
  show ((View.whole cc0_stg0_0).slice _).set = _
  rw [View.set_slice_whole]
  ext i
  rw [Rect.mem_set_unit, xband, Finset.mem_filter]
  have h1 : ((show S256x2048.Idx from i) 1).val < 2048 := ((show S256x2048.Idx from i) 1).isLt
  exact ⟨fun h => ⟨Finset.mem_univ _, h (0 : Fin 2)⟩,
    fun h => (Fin.forall_fin_two (p := fun a => ![r, 0] a ≤ (i a).val ∧ (i a).val < ![r, 0] a + ![n, 2048] a)).mpr
      ⟨h.2, Nat.zero_le _, h1.trans_eq (Nat.zero_add _).symm⟩⟩
theorem set_gview (r n : ℕ) (inb) : (gview ![r, 0] ![n, 2048] inb).view.set = gband r n := by
  show ((View.whole cc0_scratch0).slice _).set = _
  rw [View.set_slice_whole]
  ext i
  rw [Rect.mem_set_unit, gband, Finset.mem_filter]
  have h1 : ((show S2048x2048.Idx from i) 1).val < 2048 := ((show S2048x2048.Idx from i) 1).isLt
  exact ⟨fun h => ⟨Finset.mem_univ _, h (0 : Fin 2)⟩,
    fun h => (Fin.forall_fin_two (p := fun a => ![r, 0] a ≤ (i a).val ∧ (i a).val < ![r, 0] a + ![n, 2048] a)).mpr
      ⟨h.2, Nat.zero_le _, h1.trans_eq (Nat.zero_add _).symm⟩⟩

omit [FloatOps F] in
/-- Row `256 o + t` of the blocks of `x` is row `t` of device `o`'s. -/
theorem xrow_block (o : Dev nD) (t : ℕ) (ht : t < 256) (q : Fin 2048) :
    xrow m ρ (256 * o.val + t) q = xstg m ρ o (Shape.pair (d := ![256, 2048]) (⟨t, ht⟩ : Fin 256) q) := by
  have ho : o.val < 8 := o.isLt
  have h1 : (⟨(256 * o.val + t) / 256 % 8, Nat.mod_lt _ (by decide)⟩ : Fin 8) = o := Fin.ext (by show _ = o.val; dsimp only; omega)
  have h2 : (⟨(256 * o.val + t) % 256, Nat.mod_lt _ (by decide)⟩ : Fin 256) = ⟨t, ht⟩ := Fin.ext (by dsimp only; omega)
  unfold xrow
  rw [h2]
  exact congrArg (fun o : Dev nD => xstg m ρ o (Shape.pair (d := ![256, 2048]) (⟨t, ht⟩ : Fin 256) q)) h1

theorem off_rows (s : Fin 3) : off s + rows s ≤ 256 := by revert s; decide

omit [FloatOps F] in
/-- Own rows written where they belong in a gather buffer are its landed contents there. -/
theorem landed_own (c : Dev nD) (s : Fin 3) (ix ig) (fd : Buf (Elt F) (gloc (dst (s, 0) c))) :
    ∀ i ∈ (gview ![256 * c.val + off s, 0] ![rows s, 2048] ig).view.set, (gview ![256 * c.val + off s, 0] ![rows s, 2048] ig).view.write (Elt F) fd
      ((xview ![off s, 0] ![rows s, 2048] ix).view.read (Elt F) (xstg m ρ c)) Finset.univ i = gath m ρ i := by
  intro i hi
  unfold View.set at hi
  obtain ⟨x, -, rfl⟩ := Finset.mem_map.mp hi
  rw [View.write_emb_of_mem _ _ (Finset.mem_univ x)]
  have hx : (x 0).val < rows s := (x 0).isLt
  have hs := off_rows s
  refine Eq.trans ?_ (Eq.trans (xrow_block m ρ c (off s + (x 0).val) (by omega) (x 1)).symm ?_)
  · show xstg m ρ c _ = xstg m ρ c _
    congr 1
    funext b
    apply Fin.ext
    fin_cases b
    · show off s + 1 * (x 0).val = off s + (x 0).val; omega
    · show 0 + 1 * (x 1).val = (x 1).val; omega
  · show _ = xrow m ρ (256 * c.val + off s + 1 * (x 0).val) _
    congr 1
    · omega
    · exact Fin.ext (by show (x 1).val = 0 + 1 * (x 1).val; omega)

omit [FloatOps F] in
/-- Landed rows copied to the same place of another gather buffer are its landed contents there. -/
theorem landed_fwd {off sz : Fin 2 → ℕ} (ig ig') (fd : (cc0_scratch0 : Ref sig .tc).ty.Contents (Elt F)) :
    ∀ i ∈ (gview off sz ig).view.set, (gview off sz ig).view.write (Elt F) fd
      ((gview off sz ig').view.read (Elt F) (gath m ρ)) Finset.univ i = gath m ρ i := by
  intro i hi
  unfold View.set at hi
  obtain ⟨x, -, rfl⟩ := Finset.mem_map.mp hi
  rw [View.write_emb_of_mem _ _ (Finset.mem_univ x)]
  rfl

/-- The messages that carry on what a message brought. -/
def fwd (μ : Msg) : List Msg :=
  (![[(μ.1, 3), (μ.1, 4)], [(μ.1, 5)], [], [(μ.1, 6)], [], [], []] : Fin 7 → List Msg) μ.2

omit [FloatOps F] in
/-- What landed is what the device keeps and what the messages that carry it on lend. -/
theorem land_split (c : Dev nD) (μ : Msg) : (land m ρ c μ : sProp 𝕄) ⊣⊢ iprop(kept m ρ c μ ∗ bigSepL (fwd μ) (lent m ρ c)) := by
  obtain ⟨s, j⟩ := μ
  have split (q : PosShare TreeShare) (o : Dev nD) :
      (gAt m ρ s o c q : sProp 𝕄) ⊣⊢ iprop(gAt m ρ s o c q.left ∗ gAt m ρ s o c q.right) := by
    unfold gAt; exact pointsTo_share (PosShare.mem_left_op_right q)
  have one (q : PosShare TreeShare) (o : Dev nD) : (gAt m ρ s o c q : sProp 𝕄) ⊣⊢ iprop(gAt m ρ s o c q ∗ emp) := ⟨Laws.sep_emp.2, Laws.sep_emp.1⟩
  have e0 (j : Fin 7) (h : ¬ j.val < 3) : lent m ρ c (s, j) = (gAt m ρ s (org (pred (s, j)) c) c (lsh j) : sProp 𝕄) := if_neg h
  fin_cases j
  · refine (split fullShare _).trans ⟨sep_mono_right ?_, sep_mono_right ?_⟩
    · show _ ⊢ iprop(lent m ρ c (s, 3) ∗ lent m ρ c (s, 4))
      rw [e0 3 (by decide), e0 4 (by decide)]; exact (split fullShare.right _).1
    · show iprop(lent m ρ c (s, 3) ∗ lent m ρ c (s, 4)) ⊢ _
      rw [e0 3 (by decide), e0 4 (by decide)]; exact (split fullShare.right _).2
  · refine (split fullShare _).trans ⟨sep_mono_right ?_, sep_mono_right ?_⟩
    · show _ ⊢ lent m ρ c (s, 5)
      rw [e0 5 (by decide)]; exact BI.Entails.refl _
    · show lent m ρ c (s, 5) ⊢ _
      rw [e0 5 (by decide)]; exact BI.Entails.refl _
  · exact one _ _
  · refine (split fullShare _).trans ⟨sep_mono_right ?_, sep_mono_right ?_⟩
    · show _ ⊢ lent m ρ c (s, 6)
      rw [e0 6 (by decide)]; exact BI.Entails.refl _
    · show lent m ρ c (s, 6) ⊢ _
      rw [e0 6 (by decide)]; exact BI.Entails.refl _
  · exact one _ _
  · exact one _ _
  · exact one _ _

/-! ## What a device holds -/

abbrev 𝒱₀ : Variants := Variants.none

/-- The invariants of all the cells, at the names the launch allocated them, that each is at its first round, and the levels. -/
def known (K : Dev nD × Cell → ℕ) : sProp 𝕄 :=
  iprop((bigSep Finset.univ fun ck : Dev nD × Cell => iprop(cellInv ER (rd m ρ) (K ck) (kcell ck) ∗ reached ER (kcell ck) 0)) ∗ levAts L lv)

instance known_persistent (K : Dev nD × Cell → ℕ) : BI.Persistent (known m ρ K) := by unfold known; infer_instance

theorem known_cell (K : Dev nD × Cell → ℕ) (ck : Dev nD × Cell) :
    known m ρ K ⊢ iprop(cellInv ER (rd m ρ) (K ck) (kcell ck) ∗ reached ER (kcell ck) 0) := by
  unfold known
  rw [bigSep_univ_at _ ck]
  iintro ⟨⟨H, -⟩, -⟩
  iexact H
theorem known_lev (K : Dev nD × Cell → ℕ) : known m ρ K ⊢ (levAts L lv : sProp 𝕄) := by
  unfold known
  iintro ⟨-, H⟩
  iexact H

/-- For a message still to be sent: its two duties, its slot, and the send cell's position; -/
def toSend (c : Dev nD) (μ : Msg) : sProp 𝕄 :=
  iprop(dutyTok ER (sndCell μ c) 0 (0 : Fin 3) ∗ dutyTok ER (rcvCell μ (dst μ c)) 0 (0 : Fin 3) ∗ slot c μ ∗ atPos ER (sndCell μ c) 0 ∅ 0)
/-- for one in flight: the credit its send cell owes, and the position; -/
def flying (c : Dev nD) (μ : Msg) : sProp 𝕄 :=
  iprop(cred (tallyAt (sndCell μ c) () (cr μ.1)) ∗ atPos ER (sndCell μ c) 0 ∅ 0)
/-- for one whose source came back: the position past the round, and the source's share; -/
def returned (c : Dev nD) (μ : Msg) : sProp 𝕄 := iprop(atPos ER (sndCell μ c) 1 ∅ 0 ∗ lent m ρ c μ)
/-- for one still to be received: the credit and the position; -/
def toRecv (c : Dev nD) (μ : Msg) : sProp 𝕄 :=
  iprop(cred (tallyAt (rcvCell μ c) () (cr μ.1)) ∗ atPos ER (rcvCell μ c) 0 ∅ 0)
/-- for one received: the position past the round, and the share of what landed that the device keeps. -/
def received (c : Dev nD) (μ : Msg) : sProp 𝕄 := iprop(atPos ER (rcvCell μ c) 1 ∅ 0 ∗ kept m ρ c μ)

variable (out : Dev nD → (cc0_stg2_0 : Ref sig .tc).ty.Contents (Elt F))

/-- The rows of the result computed from the device's own block, or from what a message brought. -/
def obase (c : Dev nD) : Option Msg → ℕ
  | none => 256 * c.val
  | some μ => 256 * (org μ c).val + off μ.1
def olen : Option Msg → ℕ
  | none => 256
  | some μ => rows μ.1

/-- The result buffer, right in the rows `P`. -/
def outHeld (c : Dev nD) (P : List (Option Msg)) : sProp 𝕄 :=
  iprop(∃ f, ⌜∀ p ∈ P, ∀ i : S2048x256.Idx, obase c p ≤ (i 0).val → (i 0).val < obase c p + olen p → f i = out c i⌝ ∗ oloc c ↦{fullShare} f)

def St (K : Dev nD × Cell → ℕ) (c : Dev nD) (T S B A R H : List Msg) (P : List (Option Msg)) : sProp 𝕄 :=
  iprop(known m ρ K ∗ (∃ W, owes (c : Thread nD τ) (owe c T) W)
    ∗ bigSepL T (toSend c) ∗ bigSepL S (flying c) ∗ bigSepL B (returned m ρ c)
    ∗ bigSepL A (lent m ρ c) ∗ bigSepL R (toRecv c) ∗ bigSepL H (received m ρ c)
    ∗ (xloc c ↦{fullShare.left} xstg m ρ c) ∗ (wloc c ↦{fullShare} wstg m ρ c) ∗ outHeld out c P)

/-- The rest of a device's program. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {m ρ out}

section Steps

variable {K : Dev nD × Cell → ℕ} {c : Dev nD} {T S B A R H : List Msg} {P : List (Option Msg)}

/-! ## Sends -/

/-- A transfer of a message, from a source whose share is what the message lends and whose rows are the landed contents of the
    message's slot. -/
theorem send_core (μ : Msg) {sz : Fin 2 → ℕ} {n : Dev nD} (hn : n = dst μ c) {src : Memref sig .tc .vmem ⟨2, sz⟩ .f32}
    {offg : Fin 2 → ℕ} {ig} {sS sR : SemLoc sig} (hS : sS = csem (Cell.snd μ)) (hR : sR = csem (Cell.rcv μ))
    {hsc : (gview offg sz ig : Memref sig (Dev.tc n : Thread nD τ).2.kind .vmem ⟨2, sz⟩ .f32).view.ref.isScScratch = false}
    {hsrc : src.view.WordExact} {hdst : (gview offg sz ig).view.WordExact}
    {hsem : DmaTarget.Typed .vmem sR (.remote (Dev.tc n : Thread nD τ) (gview offg sz ig) sS hsc)}
    {α : Type} {Q : α → sProp 𝕄} {k : PUnit → Prog (TpuEff nD τ sig (Elt F) Λ₀ .tc) α} {q : PosShare TreeShare} {fs : Buf (Elt F) (src.view.loc (c : Thread nD τ))}
    (hlent : (src.view.loc (c : Thread nD τ) ↦[src.view.set]{q} fs) = lent m ρ c μ)
    (hset : (gview offg sz ig).view.set = gset μ.1 (org μ (dst μ c)))
    (hwrite : ∀ fd : (cc0_scratch0 : Ref sig .tc).ty.Contents (Elt F), ∀ i ∈ (gview offg sz ig).view.set,
      (gview offg sz ig).view.write (Elt F) fd (src.view.read (Elt F) fs) Finset.univ i = gath m ρ i)
    (hN : (gview offg sz ig).view.amount sR = cr μ.1)
    (h : St m ρ out K c T (μ :: S) B A R H P ⊢ run c (k ⟨⟩) Q) :
    St m ρ out K c (μ :: T) S B (μ :: A) R H P
      ⊢ run c (.op (.enqueueDma src (.remote (Dev.tc n : Thread nD τ) (gview offg sz ig) sS hsc) sR hsrc hdst hsem) k) Q := by
  subst hn hS hR
  unfold St run
  rw [bigSepL_cons', bigSepL_cons']
  unfold toSend slot raw
  iintro ⟨#HK, ⟨%W, HO⟩, ⟨⟨HtS, HtR, Hslot, HaS⟩, HT⟩, HS, HB, ⟨Hl, HA⟩, HR, HH, Hx, Hw, Ho⟩
  icases Hslot with ⟨%fd, Hslot⟩
  ihave HcS := (known_cell m ρ K (c, Cell.snd μ)) $$ HK
  icases HcS with ⟨#HiS, #HrS⟩
  ihave HcR := (known_cell m ρ K (dst μ c, Cell.rcv μ)) $$ HK
  icases HcR with ⟨#HiR, #HrR⟩
  ihave Hl := (Entails.of_eq hlent.symm) $$ Hl
  ihave Hslot := (Entails.of_eq (congrArg (fun s : Finset (cc0_scratch0 : Ref sig .tc).ty.Idx => (gloc (dst μ c) ↦[s]{fullShare} fd : sProp 𝕄)) hset.symm)) $$ Hslot
  have hstep := Rounds.wp_send_pointsTo 𝒱₀ ER (rd m ρ) (c : Thread nD τ) none (defs := defs₀ (F := F)) (Γ := .empty) (Q := Q) (k := k) (κ₁ := K (c, Cell.snd μ)) (κ₂ := K (dst μ c, Cell.rcv μ))
    (r₁ := 0) (r₂ := 0) (d₁ := 0) (d₂ := 0) (fd := fd) (fs := fs)
    (by rw [duties_cell]; exact Finset.mem_singleton_self _) (by rw [duties_cell]; exact Finset.mem_singleton_self _)
    () () (cr μ.1) hN (amount_cell m ρ c _ 0) (amount_cell m ρ (dst μ c) _ 0) (owe c T) rfl (W := W)
    (by rw [payload_cell, hlent]; exact BI.Entails.refl _)
    (by
      rw [payload_cell, pointsTo_congr (hwrite fd), hset]; exact BI.Entails.refl _)
    (Es := Set.univ) (hsrc := hsrc) (hdst := hdst) (hsem := hsem)
  iapply hstep $$ [HO HtS HtR Hslot Hl]
  · isplitr; · iexact HiS
    isplitr; · iexact HiR
    isplitl [Hl]; · iexact Hl
    isplitl [Hslot]; · iexact Hslot
    isplitl [HO]; · iexact HO
    isplitl [HtS]; · iexact HtS
    isplitr; · iexact HrS
    isplitl [HtR]; · iexact HtR
    iexact HrR
  iintro ⟨HcS, HO⟩
  iapply (show _ ⊢ wp frame (wpE (defs₀ (F := F)) 𝒱₀ (c : Thread nD τ) none) Set.univ (k ⟨⟩) Q from h)
  unfold St
  rw [bigSepL_cons']
  unfold flying
  isplitr; · iexact HK
  isplitl [HO]; · iexists W; iexact HO
  isplitl [HT]; · iexact HT
  isplitl [HS HcS HaS]
  · isplitl [HcS HaS]
    · isplitl [HcS] <;> iassumption
    iexact HS
  isplitl [HB]; · iexact HB
  isplitl [HA]; · iexact HA
  isplitl [HR]; · iexact HR
  isplitl [HH]; · iexact HH
  isplitl [Hx]; · iexact Hx
  isplitl [Hw]; · iexact Hw
  iexact Ho

/-- A message numbered 0, 1, 2: own rows. -/
theorem send_own (μ : Msg) (hμ : μ.2.val < 3) {sz offx offg : Fin 2 → ℕ} {n : Dev nD} (hn : n = dst μ c) (hx : offx = ![off μ.1, 0])
    (hg : offg = ![256 * c.val + off μ.1, 0]) (hsz : sz = ![rows μ.1, 2048]) {ix ig} {sS sR : SemLoc sig}
    (hS : sS = csem (Cell.snd μ)) (hR : sR = csem (Cell.rcv μ))
    {hsc : (gview offg sz ig : Memref sig (Dev.tc n : Thread nD τ).2.kind .vmem ⟨2, sz⟩ .f32).view.ref.isScScratch = false}
    {hsrc : (xview offx sz ix).view.WordExact} {hdst : (gview offg sz ig).view.WordExact}
    {hsem : DmaTarget.Typed .vmem sR (.remote (Dev.tc n : Thread nD τ) (gview offg sz ig) sS hsc)}
    {α : Type} {Q : α → sProp 𝕄} {k : PUnit → Prog (TpuEff nD τ sig (Elt F) Λ₀ .tc) α}
    (hN : (gview offg sz ig).view.amount sR = cr μ.1)
    (h : St m ρ out K c T (μ :: S) B A R H P ⊢ run c (k ⟨⟩) Q) :
    St m ρ out K c (μ :: T) S B (μ :: A) R H P
      ⊢ run c (.op (.enqueueDma (xview offx sz ix) (.remote (Dev.tc n : Thread nD τ) (gview offg sz ig) sS hsc) sR hsrc hdst hsem) k) Q := by
  subst hx hg hsz
  refine send_core μ hn hS hR (q := lsh μ.2) (fs := xstg m ρ c) ?_ ?_ ?_ hN h
  · unfold lent xAt
    rw [if_pos hμ, set_xview]
  · rw [set_gview, org_own μ c hμ]
  · exact fun fd => landed_own m ρ c μ.1 ix ig fd

/-- A message numbered 3 to 6: what its predecessor brought. -/
theorem send_fwd (μ : Msg) (hμ : ¬ μ.2.val < 3) {sz offs offg : Fin 2 → ℕ} {n : Dev nD} (hn : n = dst μ c) (hx : offs = offg)
    (hg : offg = ![256 * (org (pred μ) c).val + off μ.1, 0]) (hsz : sz = ![rows μ.1, 2048]) {ix ig} {sS sR : SemLoc sig}
    (hS : sS = csem (Cell.snd μ)) (hR : sR = csem (Cell.rcv μ))
    {hsc : (gview offg sz ig : Memref sig (Dev.tc n : Thread nD τ).2.kind .vmem ⟨2, sz⟩ .f32).view.ref.isScScratch = false}
    {hsrc : (gview offs sz ix).view.WordExact} {hdst : (gview offg sz ig).view.WordExact}
    {hsem : DmaTarget.Typed .vmem sR (.remote (Dev.tc n : Thread nD τ) (gview offg sz ig) sS hsc)}
    {α : Type} {Q : α → sProp 𝕄} {k : PUnit → Prog (TpuEff nD τ sig (Elt F) Λ₀ .tc) α}
    (hN : (gview offg sz ig).view.amount sR = cr μ.1)
    (h : St m ρ out K c T (μ :: S) B A R H P ⊢ run c (k ⟨⟩) Q) :
    St m ρ out K c (μ :: T) S B (μ :: A) R H P
      ⊢ run c (.op (.enqueueDma (gview offs sz ix) (.remote (Dev.tc n : Thread nD τ) (gview offg sz ig) sS hsc) sR hsrc hdst hsem) k) Q := by
  subst hx hg hsz
  refine send_core μ hn hS hR (q := lsh μ.2) (fs := gath m ρ) ?_ ?_ ?_ hN h
  · unfold lent gAt
    rw [if_neg hμ, set_gview]
  · rw [set_gview, org_fwd μ c hμ]
  · intro fd
    exact landed_fwd m ρ ig ix fd

/-! ## Waits -/

/-- A wait on a receive cell brings what landed: a share to keep, and the shares to lend to the messages that carry it on. -/
theorem wait_rcv (μ : Msg) {q : DmaSem sig} (hq : q = rcvS μ) {sp sp' : Space} {s s' : Shape} {e e' : EltTy}
    {src : Memref sig .tc sp' s' e'} {dv : Memref sig .tc sp s e} {hs : src.view.WordExact} {hd : dv.view.WordExact}
    {α : Type} {Q : α → sProp 𝕄} {k : PUnit → Prog (TpuEff nD τ sig (Elt F) Λ₀ .tc) α}
    (hN : dv.view.dmaCredit = cr μ.1)
    (hlev : ∀ ν ∈ T, klev (some (Cell.rcv μ)) < klev (some (Cell.rcv ν)))
    (h : St m ρ out K c T S B (fwd μ ++ A) R (μ :: H) P ⊢ run c (k ⟨⟩) Q) :
    St m ρ out K c T S B A (μ :: R) H P ⊢ run c (.op (.waitDma2 q src dv hs hd) k) Q := by
  subst hq
  unfold St run
  rw [bigSepL_cons']
  unfold toRecv
  iintro ⟨#HK, ⟨%W, HO⟩, HT, HS, HB, HA, ⟨⟨Hc, Ha⟩, HR⟩, HH, Hx, Hw, Ho⟩
  ihave HcR := (known_cell m ρ K (c, Cell.rcv μ)) $$ HK
  icases HcR with ⟨#HiR, -⟩
  ihave Hlev := (known_lev m ρ K) $$ HK
  have hstep := Rounds.wp_wait_rest_token 𝒱₀ ER (rd m ρ) (c : Thread nD τ) none (defs := defs₀ (F := F)) (Γ := .empty) (Q := Q) (k := k)
    (κ := K (c, Cell.rcv μ)) (sm := csem (Cell.rcv μ)) (k' := cr μ.1) (w := .waitDma2 (rcvS μ) src dv hs hd) (Es := Set.univ)
    (fun Kt => by rw [← hN]; exact wpE_waitDma2_eq 𝒱₀ (c : Thread nD τ) none Set.univ Kt) (Set.mem_univ _) ()
    (O := owe c T) (W := W) (R := 0) (m := 0) (T := ∅) (by rw [Nat.zero_add]; exact (expect_rcv m ρ c μ).symm)
  iapply hstep $$ [HO Hc Ha Hlev]
  · isplitr; · iexact HiR
    isplitl [Hc]; · iexact Hc
    isplitl [HO]; · iexact HO
    isplitl [Hlev]
    · iapply (mayWait_owe c (csem (Cell.rcv μ)) T (by rw [dec_csem]; exact hlev)); iexact Hlev
    iexact Ha
  iintro ⟨HO, Ha, -, Hpay⟩
  ihave Hp := (Entails.of_eq (rest_rcv m ρ c μ)) $$ Hpay
  ihave Hp := (land_split m ρ c μ).1 $$ Hp
  icases Hp with ⟨Hk, Hl⟩
  iapply (show _ ⊢ wp frame (wpE (defs₀ (F := F)) 𝒱₀ (c : Thread nD τ) none) Set.univ (k ⟨⟩) Q from h)
  unfold St
  rw [bigSepL_cons', bigSepL_append]
  unfold received
  isplitr; · iexact HK
  isplitl [HO]; · iexists _; iexact HO
  isplitl [HT]; · iexact HT
  isplitl [HS]; · iexact HS
  isplitl [HB]; · iexact HB
  isplitl [HA Hl]
  · isplitl [Hl] <;> iassumption
  isplitl [HR]; · iexact HR
  isplitl [HH Ha Hk]
  · isplitl [Ha Hk]
    · isplitl [Ha] <;> iassumption
    iexact HH
  isplitl [Hx]; · iexact Hx
  isplitl [Hw]; · iexact Hw
  iexact Ho

/-- A wait on a send cell, everything sent, brings back the share that was lent. -/
theorem wait_snd (μ : Msg) {q : DmaSem sig} (hq : q = sndS μ) {sp sp' : Space} {s s' : Shape} {e e' : EltTy}
    {src : Memref sig .tc sp' s' e'} {dv : Memref sig .tc sp s e} {hs : src.view.WordExact} {hd : dv.view.WordExact}
    {α : Type} {Q : α → sProp 𝕄} {k : PUnit → Prog (TpuEff nD τ sig (Elt F) Λ₀ .tc) α}
    (hN : dv.view.dmaCredit = cr μ.1)
    (h : St m ρ out K c [] S (μ :: B) A R H P ⊢ run c (k ⟨⟩) Q) :
    St m ρ out K c [] (μ :: S) B A R H P ⊢ run c (.op (.waitDma2 q src dv hs hd) k) Q := by
  subst hq
  unfold St run
  rw [bigSepL_cons']
  unfold flying
  iintro ⟨#HK, ⟨%W, HO⟩, HT, ⟨⟨Hc, Ha⟩, HS⟩, HB, HA, HR, HH, Hx, Hw, Ho⟩
  ihave HcS := (known_cell m ρ K (c, Cell.snd μ)) $$ HK
  icases HcS with ⟨#HiS, -⟩
  have hstep := Rounds.wp_wait_rest_token 𝒱₀ ER (rd m ρ) (c : Thread nD τ) none (defs := defs₀ (F := F)) (Γ := .empty) (Q := Q) (k := k)
    (κ := K (c, Cell.snd μ)) (sm := csem (Cell.snd μ)) (k' := cr μ.1) (w := .waitDma2 (sndS μ) src dv hs hd) (Es := Set.univ)
    (fun Kt => by rw [← hN]; exact wpE_waitDma2_eq 𝒱₀ (c : Thread nD τ) none Set.univ Kt) (Set.mem_univ _) ()
    (O := owe c []) (W := W) (R := 0) (m := 0) (T := ∅) (by rw [Nat.zero_add]; exact (expect_snd m ρ c μ).symm)
  iapply hstep $$ [HO Hc Ha]
  · isplitr; · iexact HiS
    isplitl [Hc]; · iexact Hc
    isplitl [HO]; · iexact HO
    isplitr; · rw [show owe c [] = 0 from rfl, MayWait_zero]; iempintro
    iexact Ha
  iintro ⟨HO, Ha, -, Hpay⟩
  ihave Hp := (Entails.of_eq (rest_snd m ρ c μ)) $$ Hpay
  iapply (show _ ⊢ wp frame (wpE (defs₀ (F := F)) 𝒱₀ (c : Thread nD τ) none) Set.univ (k ⟨⟩) Q from h)
  unfold St
  rw [bigSepL_cons']
  unfold returned
  isplitr; · iexact HK
  isplitl [HO]; · iexists _; iexact HO
  isplitl [HT]; · iexact HT
  isplitl [HS]; · iexact HS
  isplitl [HB Ha Hp]
  · isplitl [Ha Hp]
    · isplitl [Ha] <;> iassumption
    iexact HB
  isplitl [HA]; · iexact HA
  isplitl [HR]; · iexact HR
  isplitl [HH]; · iexact HH
  isplitl [Hx]; · iexact Hx
  isplitl [Hw]; · iexact Hw
  iexact Ho

/-! ## Loads and stores -/

theorem hz : (![0, 0] : Fin 2 → Nat) = fun _ => 0 := funext fun a => by fin_cases a <;> rfl

/-- A load of the device's block of `x`; -/
theorem load_x {inb} {hl : xM.view.LoadsAt (Rect.unit (s := S256x2048) ![0, 0] S256x2048.size inb).toLoadRect}
    {α : Type} {Q : α → sProp 𝕄} {k : (S256x2048.Idx → Elt F .f32) → Prog (TpuEff nD τ sig (Elt F) Λ₀ .tc) α}
    (h : St m ρ out K c T S B A R H P ⊢ run c (k (xstg m ρ c)) Q) :
    St m ρ out K c T S B A R H P ⊢ run c (.op (.load xM (Rect.unit (s := S256x2048) ![0, 0] S256x2048.size inb).toLoadRect hl) k) Q := by
  have hr : xM.view.readAt (Elt F) (Rect.unit (s := S256x2048) ![0, 0] S256x2048.size inb).toLoadRect (xstg m ρ c) = xstg m ρ c :=
    Memref.readAt_unit_zero (Elt F) cc0_stg0_0 hz _ _
  have hstep := wp_load 𝒱₀ (c : Thread nD τ) none Set.univ (defs := defs₀ (F := F)) (Γ := .empty) (Q := Q) (k := k) (m := xM) (hl := hl)
    (S := Finset.univ) (q := fullShare.left) (f := xstg m ρ c) (Finset.subset_univ _)
  rw [hr] at hstep
  unfold St run
  iintro ⟨#HK, HO, HT, HS, HB, HA, HR, HH, Hx, Hw, Ho⟩
  iapply hstep $$ Hx
  iintro Hx
  iapply (show _ ⊢ wp frame (wpE (defs₀ (F := F)) 𝒱₀ (c : Thread nD τ) none) Set.univ (k (xstg m ρ c)) Q from h)
  unfold St
  isplitr; · iexact HK
  isplitl [HO]; · iexact HO
  isplitl [HT]; · iexact HT
  isplitl [HS]; · iexact HS
  isplitl [HB]; · iexact HB
  isplitl [HA]; · iexact HA
  isplitl [HR]; · iexact HR
  isplitl [HH]; · iexact HH
  isplitl [Hx]; · iexact Hx
  isplitl [Hw]; · iexact Hw
  iexact Ho

/-- of its block of `w`; -/
theorem load_w {inb} {hl : wM.view.LoadsAt (Rect.unit (s := S2048x256) ![0, 0] S2048x256.size inb).toLoadRect}
    {α : Type} {Q : α → sProp 𝕄} {k : (S2048x256.Idx → Elt F .f32) → Prog (TpuEff nD τ sig (Elt F) Λ₀ .tc) α}
    (h : St m ρ out K c T S B A R H P ⊢ run c (k (wstg m ρ c)) Q) :
    St m ρ out K c T S B A R H P ⊢ run c (.op (.load wM (Rect.unit (s := S2048x256) ![0, 0] S2048x256.size inb).toLoadRect hl) k) Q := by
  have hr : wM.view.readAt (Elt F) (Rect.unit (s := S2048x256) ![0, 0] S2048x256.size inb).toLoadRect (wstg m ρ c) = wstg m ρ c :=
    Memref.readAt_unit_zero (Elt F) cc0_stg1_0 hz _ _
  have hstep := wp_load 𝒱₀ (c : Thread nD τ) none Set.univ (defs := defs₀ (F := F)) (Γ := .empty) (Q := Q) (k := k) (m := wM) (hl := hl)
    (S := Finset.univ) (q := fullShare) (f := wstg m ρ c) (Finset.subset_univ _)
  rw [hr] at hstep
  unfold St run
  iintro ⟨#HK, HO, HT, HS, HB, HA, HR, HH, Hx, Hw, Ho⟩
  iapply hstep $$ Hw
  iintro Hw
  iapply (show _ ⊢ wp frame (wpE (defs₀ (F := F)) 𝒱₀ (c : Thread nD τ) none) Set.univ (k (wstg m ρ c)) Q from h)
  unfold St
  isplitr; · iexact HK
  isplitl [HO]; · iexact HO
  isplitl [HT]; · iexact HT
  isplitl [HS]; · iexact HS
  isplitl [HB]; · iexact HB
  isplitl [HA]; · iexact HA
  isplitl [HR]; · iexact HR
  isplitl [HH]; · iexact HH
  isplitl [Hx]; · iexact Hx
  isplitl [Hw]; · iexact Hw
  iexact Ho

/-- of a place of the result buffer, whose value is not used; -/
theorem load_o {r : LoadRect S2048x256} {hl : oM.view.LoadsAt r}
    {α : Type} {Q : α → sProp 𝕄} {k : (r.shape.Idx → Elt F .f32) → Prog (TpuEff nD τ sig (Elt F) Λ₀ .tc) α}
    (h : ∀ v, St m ρ out K c T S B A R H P ⊢ run c (k v) Q) :
    St m ρ out K c T S B A R H P ⊢ run c (.op (.load oM r hl) k) Q := by
  unfold St outHeld run
  iintro ⟨#HK, HO, HT, HS, HB, HA, HR, HH, Hx, Hw, ⟨%f, %hf, Ho⟩⟩
  have hstep := wp_load 𝒱₀ (c : Thread nD τ) none Set.univ (defs := defs₀ (F := F)) (Γ := .empty) (Q := Q) (k := k) (m := oM) (hl := hl)
    (S := Finset.univ) (q := fullShare) (f := f) (Finset.subset_univ _)
  iapply hstep $$ Ho
  iintro Ho
  iapply (show _ ⊢ wp frame (wpE (defs₀ (F := F)) 𝒱₀ (c : Thread nD τ) none) Set.univ (k (oM.view.readAt (Elt F) r f)) Q from h _)
  unfold St outHeld
  isplitr; · iexact HK
  isplitl [HO]; · iexact HO
  isplitl [HT]; · iexact HT
  isplitl [HS]; · iexact HS
  isplitl [HB]; · iexact HB
  isplitl [HA]; · iexact HA
  isplitl [HR]; · iexact HR
  isplitl [HH]; · iexact HH
  isplitl [Hx]; · iexact Hx
  isplitl [Hw]; · iexact Hw
  iexists f
  isplitr; · ipureintro; exact hf
  iexact Ho

/-- Every element of a list can be taken out and put back. -/
theorem bigSepL_take {I : Type} {l : List I} {Φ : I → sProp 𝕄} {i : I} (h : i ∈ l) :
    bigSepL l Φ ⊢ iprop(Φ i ∗ (Φ i -∗ bigSepL l Φ)) := by
  induction l with
  | nil => exact absurd h List.not_mem_nil
  | cons j l ih =>
    rw [bigSepL_cons']
    rcases List.mem_cons.mp h with rfl | h
    · iintro ⟨H, HL⟩
      isplitl [H]; · iexact H
      iintro H
      isplitl [H] <;> iassumption
    · iintro ⟨H, HL⟩
      ihave HL := (ih h) $$ HL
      icases HL with ⟨Hi, HL⟩
      isplitl [Hi]; · iexact Hi
      iintro Hi
      isplitl [H]; · iexact H
      iapply HL; iexact Hi

/-- of rows a message brought. -/
theorem load_g (μ : Msg) (hμ : μ ∈ H) {off' sz : Fin 2 → ℕ} {inb} (hoff : off' = ![256 * (org μ c).val + off μ.1, 0]) (hsz : sz = ![rows μ.1, 2048])
    {hl : gM.view.LoadsAt (Rect.unit (s := S2048x2048) off' sz inb).toLoadRect}
    {α : Type} {Q : α → sProp 𝕄} {k : ((⟨2, sz⟩ : Shape).Idx → Elt F .f32) → Prog (TpuEff nD τ sig (Elt F) Λ₀ .tc) α}
    (h : St m ρ out K c T S B A R H P ⊢ run c (k (gM.view.readAt (Elt F) (Rect.unit (s := S2048x2048) off' sz inb).toLoadRect (gath m ρ))) Q) :
    St m ρ out K c T S B A R H P ⊢ run c (.op (.load gM (Rect.unit (s := S2048x2048) off' sz inb).toLoadRect hl) k) Q := by
  subst hoff hsz
  have hstep := wp_load 𝒱₀ (c : Thread nD τ) none Set.univ (defs := defs₀ (F := F)) (Γ := .empty) (Q := Q) (k := k) (m := gM) (hl := hl)
    (S := gset μ.1 (org μ c)) (q := ksh μ.2) (f := gath m ρ) (by
      exact ((View.set_slice _ _).symm.trans (set_gview (256 * (org μ c).val + off μ.1) (rows μ.1) inb)).subset)
  unfold St run received
  iintro ⟨#HK, HO, HT, HS, HB, HA, HR, HH, Hx, Hw, Ho⟩
  ihave HH := (bigSepL_take hμ) $$ HH
  icases HH with ⟨⟨Ha, Hg⟩, HH⟩
  ihave Hg := (Entails.of_eq (show kept m ρ c μ = (gM.view.loc (c : Thread nD τ) ↦[gset μ.1 (org μ c)]{ksh μ.2} gath m ρ : sProp 𝕄) from rfl)) $$ Hg
  iapply hstep $$ Hg
  iintro Hg
  iapply (show _ ⊢ wp frame (wpE (defs₀ (F := F)) 𝒱₀ (c : Thread nD τ) none) Set.univ (k (gM.view.readAt (Elt F) (Rect.unit (s := S2048x2048) _ _ inb).toLoadRect (gath m ρ))) Q from h)
  unfold St
  isplitr; · iexact HK
  isplitl [HO]; · iexact HO
  isplitl [HT]; · iexact HT
  isplitl [HS]; · iexact HS
  isplitl [HB]; · iexact HB
  isplitl [HA]; · iexact HA
  isplitl [HR]; · iexact HR
  isplitl [HH Ha Hg]
  · iapply HH
    isplitl [Ha]; · iexact Ha
    iapply (Entails.of_eq (show (gM.view.loc (c : Thread nD τ) ↦[gset μ.1 (org μ c)]{ksh μ.2} gath m ρ : sProp 𝕄) = kept m ρ c μ from rfl))
    iexact Hg
  isplitl [Hx]; · iexact Hx
  isplitl [Hw]; · iexact Hw
  iexact Ho

/-- Writing a part of the result extends the rows that hold it. -/
theorem written (p : Option Msg) {inb} {f : BufTy.Contents (Elt F) cc0_stg2_0.ty} {w : (⟨2, ![olen p, 256]⟩ : Shape).Idx → Elt F .f32}
    (hf : ∀ p ∈ P, ∀ i : S2048x256.Idx, obase c p ≤ (i 0).val → (i 0).val < obase c p + olen p → f i = out c i)
    (hw : ∀ x, w x = out c ((Rect.unit (s := S2048x256) ![obase c p, 0] ![olen p, 256] inb).emb x)) :
    ∀ p' ∈ p :: P, ∀ i : S2048x256.Idx, obase c p' ≤ (i 0).val → (i 0).val < obase c p' + olen p' →
      (oM.access (Rect.unit (s := S2048x256) ![obase c p, 0] ![olen p, 256] inb)).write (Elt F) f w Finset.univ i = out c i := by
  intro p' hp' i h1 h2
  by_cases hi : i ∈ (oM.access (Rect.unit (s := S2048x256) ![obase c p, 0] ![olen p, 256] inb)).setOn Finset.univ
  · unfold View.setOn at hi
    obtain ⟨x, -, rfl⟩ := Finset.mem_map.mp hi
    exact (View.write_emb_of_mem _ _ (Finset.mem_univ x)).trans (hw x)
  · rw [View.write_of_not_mem _ _ _ hi]
    rcases List.mem_cons.mp hp' with rfl | hp'
    · refine absurd ?_ hi
      rw [View.setOn_univ]
      show i ∈ (((View.whole cc0_stg2_0).slice (Rect.unit (s := S2048x256) ![obase c p', 0] ![olen p', 256] inb)).set : Finset S2048x256.Idx)
      rw [View.set_slice_whole, Rect.mem_set_unit]
      have h3 : (i 1).val < 256 := (i 1).isLt
      exact (Fin.forall_fin_two (p := fun a => ![obase c p', 0] a ≤ (i a).val ∧ (i a).val < ![obase c p', 0] a + ![olen p', 256] a)).mpr
        ⟨⟨h1, h2⟩, Nat.zero_le _, h3.trans_eq (Nat.zero_add _).symm⟩
    · exact hf p' hp' i h1 h2

/-- A store of a part of the result. -/
theorem store_o (p : Option Msg) {off' sz : Fin 2 → ℕ} {inb} (hoff : off' = ![obase c p, 0]) (hsz : sz = ![olen p, 256])
    {w : (⟨2, sz⟩ : Shape).Idx → Elt F .f32}
    {hx : (oM.access (Rect.unit (s := S2048x256) off' sz inb)).Stores Finset.univ}
    {hm : (Finset.univ : Finset (Rect.unit (s := S2048x256) off' sz inb).shape.Idx) = Finset.univ ∨ ∀ a, (Rect.unit (s := S2048x256) off' sz inb).stride a = 1}
    {α : Type} {Q : α → sProp 𝕄} {k : PUnit → Prog (TpuEff nD τ sig (Elt F) Λ₀ .tc) α}
    (hw : ∀ x, w x = out c ((Rect.unit (s := S2048x256) off' sz inb).emb x))
    (h : St m ρ out K c T S B A R H (p :: P) ⊢ run c (k ⟨⟩) Q) :
    St m ρ out K c T S B A R H P ⊢ run c (.op (.store oM (Rect.unit (s := S2048x256) off' sz inb) w Finset.univ hx hm) k) Q := by
  subst hoff hsz
  unfold St outHeld run
  iintro ⟨#HK, HO, HT, HS, HB, HA, HR, HH, Hx, Hw, ⟨%f, %hf, Ho⟩⟩
  have hstep := wp_store 𝒱₀ (c : Thread nD τ) none Set.univ (defs := defs₀ (F := F)) (Γ := .empty) (Q := Q) (k := k) (m := oM) (hx := hx) (hm := hm)
    (w := w) (S := Finset.univ) (f := f) (Finset.subset_univ _)
  iapply hstep $$ Ho
  iintro Ho
  iapply (show _ ⊢ wp frame (wpE (defs₀ (F := F)) 𝒱₀ (c : Thread nD τ) none) Set.univ (k ⟨⟩) Q from h)
  unfold St outHeld
  isplitr; · iexact HK
  isplitl [HO]; · iexact HO
  isplitl [HT]; · iexact HT
  isplitl [HS]; · iexact HS
  isplitl [HB]; · iexact HB
  isplitl [HA]; · iexact HA
  isplitl [HR]; · iexact HR
  isplitl [HH]; · iexact HH
  isplitl [Hx]; · iexact Hx
  isplitl [Hw]; · iexact Hw
  iexists ((oM.access (Rect.unit (s := S2048x256) ![obase c p, 0] ![olen p, 256] inb)).write (Elt F) f w Finset.univ)
  isplitr; · ipureintro; exact written p hf hw
  iexact Ho

end Steps

end Cert.KernelIdeal.Cube

end
-- ==== Proof.KernelIdeal.Out.lean ====
/-
# The result

A device's block of the result is computed in parts: its own rows of `x` in one product, and the rows of each other device in
three, one for each stream. `outAt` is the block, row by row; the lemmas say that each part is its rows.
-/
module

public import proofs.«01_k».proof.Proof.KernelIdeal.Steps

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- `n` rows of all the blocks of `x` laid one below the other, from row `r`. -/
def slab (n r : ℕ) : (⟨2, ![n, 2048]⟩ : Shape).Idx → Elt F .f32 := fun x => xrow m ρ (r + (x 0).val) (x 1)

/-- The parts of device `c`'s block of the result: its own rows, -/
def ownPart (c : Dev nD) : S256x256.Idx → Elt F .f32 :=
  k0_pay5 (k0_pay2 (k0_pay1 (wstg m ρ c)) (xstg m ρ c)) (k0_pay3 (k0_pay1 (wstg m ρ c)) (xstg m ρ c)) (k0_pay4 (k0_pay1 (wstg m ρ c)) (xstg m ρ c))
/-- 96 rows of another device, -/
def part96 (c : Dev nD) (r : ℕ) : S96x256.Idx → Elt F .f32 := k0_pay6 (k0_pay1 (wstg m ρ c)) (slab m ρ 96 r)
/-- and 80. -/
def part80 (c : Dev nD) (r : ℕ) : S80x256.Idx → Elt F .f32 := k0_pay7 (k0_pay1 (wstg m ρ c)) (slab m ρ 80 r)

/-- Row `256 b + t` of device `c`'s block of the result. -/
def outRow (c : Dev nD) (b t : ℕ) (q : Fin 256) : Elt F .f32 :=
  if b = c.val then ownPart m ρ c (Shape.pair (d := ![256, 256]) (⟨t % 256, Nat.mod_lt _ (by decide)⟩ : Fin 256) q)
  else if t < 96 then part96 m ρ c (256 * b + 0) (Shape.pair (d := ![96, 256]) (⟨t % 96, Nat.mod_lt _ (by decide)⟩ : Fin 96) q)
  else if t < 176 then part80 m ρ c (256 * b + 96) (Shape.pair (d := ![80, 256]) (⟨(t - 96) % 80, Nat.mod_lt _ (by decide)⟩ : Fin 80) q)
  else part80 m ρ c (256 * b + 176) (Shape.pair (d := ![80, 256]) (⟨(t - 176) % 80, Nat.mod_lt _ (by decide)⟩ : Fin 80) q)

/-- Device `c`'s block of the result. -/
def outAt (c : Dev nD) : (cc0_stg2_0 : Ref sig .tc).ty.Contents (Elt F) :=
  fun i => outRow m ρ c (((show S2048x256.Idx from i) 0).val / 256) (((show S2048x256.Idx from i) 0).val % 256) ((show S2048x256.Idx from i) 1)

theorem outAt_emb (c : Dev nD) {n r b t : ℕ} {off' : Fin 2 → ℕ} (hoff : off' = ![r, 0]) {inb} (x : (⟨2, ![n, 256]⟩ : Shape).Idx)
    (hr : r + (x 0).val = 256 * b + t) (ht : t < 256) :
    outAt m ρ c ((Rect.unit (s := S2048x256) off' ![n, 256] inb).emb x) = outRow m ρ c b t (x 1) := by
  subst hoff
  have h0 : ((Rect.unit (s := S2048x256) ![r, 0] ![n, 256] inb).emb x (0 : Fin 2)).val = 256 * b + t := by
    rw [Rect.emb_apply]
    show r + 1 * (x 0).val = _
    rw [Nat.one_mul]; exact hr
  have h1 : (Rect.unit (s := S2048x256) ![r, 0] ![n, 256] inb).emb x (1 : Fin 2) = x 1 := by
    apply Fin.ext
    rw [Rect.emb_apply]
    show 0 + 1 * (x 1).val = (x 1).val
    omega
  show outRow m ρ c (((Rect.unit (s := S2048x256) ![r, 0] ![n, 256] inb).emb x (0 : Fin 2)).val / 256)
    (((Rect.unit (s := S2048x256) ![r, 0] ![n, 256] inb).emb x (0 : Fin 2)).val % 256) ((Rect.unit (s := S2048x256) ![r, 0] ![n, 256] inb).emb x (1 : Fin 2)) = _
  rw [h0, h1]
  congr 1 <;> omega

theorem slab_eq {n r : ℕ} {off' : Fin 2 → ℕ} (hoff : off' = ![r, 0]) {inb} :
    gM.view.readAt (Elt F) (Rect.unit (s := S2048x2048) off' ![n, 2048] inb).toLoadRect (gath m ρ) = slab m ρ n r := by
  subst hoff
  funext x
  rw [View.readAt_apply]
  show xrow m ρ (r + 1 * (x 0).val) (⟨0 + 1 * (x 1).val, _⟩ : Fin 2048) = xrow m ρ (r + (x 0).val) (x 1)
  congr 1
  · omega
  · exact Fin.ext (by show 0 + 1 * (x 1).val = (x 1).val; omega)

theorem pair_of {n : ℕ} (x : (⟨2, ![n, 256]⟩ : Shape).Idx) {t : ℕ} (ht : t < n) (h : t = (x 0).val) :
    Shape.pair (d := ![n, 256]) (⟨t, ht⟩ : Fin n) (x 1) = x := by
  subst h; exact Shape.pair_eta x

/-- The device's own rows; -/
theorem stored_own (c : Dev nD) {off' inb} (hoff : off' = ![256 * c.val, 0]) (x : S256x256.Idx) :
    k0_pay5 (k0_pay2 (k0_pay1 (wstg m ρ c)) (xstg m ρ c)) (k0_pay3 (k0_pay1 (wstg m ρ c)) (xstg m ρ c)) (k0_pay4 (k0_pay1 (wstg m ρ c)) (xstg m ρ c)) x
      = outAt m ρ c ((Rect.unit (s := S2048x256) off' S256x256.size inb).emb x) := by
  have hx : (x 0).val < 256 := (x 0).isLt
  refine Eq.trans ?_ (outAt_emb m ρ c hoff x rfl hx).symm
  unfold outRow
  rw [if_pos rfl, pair_of x _ (Nat.mod_eq_of_lt hx)]
  rfl

theorem org_ne (c : Dev nD) (μ : Msg) : (org μ c).val ≠ c.val := by
  obtain ⟨s, j⟩ := μ; revert c s j; decide

/-- the rows a message of stream 0 brought, -/
theorem stored96 (c : Dev nD) (j : Fin 7) {off' inb} (h : off' = ![256 * (org (0, j) c).val + off 0, 0]) (x : S96x256.Idx) :
    part96 m ρ c (256 * (org (0, j) c).val + off 0) x = outAt m ρ c ((Rect.unit (s := S2048x256) off' S96x256.size inb).emb x) := by
  have hx : (x 0).val < 96 := (x 0).isLt
  have h0 : off 0 = 0 := rfl
  refine Eq.trans ?_ (outAt_emb m ρ c h x (Nat.add_assoc _ (off 0) _) (t := off 0 + (x 0).val) (by omega)).symm
  unfold outRow
  rw [if_neg (org_ne c _), if_pos (by omega), pair_of x _ (by omega)]
  rfl

/-- of another stream. -/
theorem stored80 (c : Dev nD) (μ : Msg) (hs : μ.1 ≠ 0) {off' inb} (h : off' = ![256 * (org μ c).val + off μ.1, 0]) (x : S80x256.Idx) :
    part80 m ρ c (256 * (org μ c).val + off μ.1) x = outAt m ρ c ((Rect.unit (s := S2048x256) off' S80x256.size inb).emb x) := by
  have hx : (x 0).val < 80 := (x 0).isLt
  have hs' : off μ.1 = 96 ∨ off μ.1 = 176 := by
    clear h; obtain ⟨s, j⟩ := μ; revert hs; dsimp only; revert s; decide
  refine Eq.trans ?_ (outAt_emb m ρ c h x (Nat.add_assoc _ (off μ.1) _) (t := off μ.1 + (x 0).val) (by omega)).symm
  unfold outRow
  rw [if_neg (org_ne c _), if_neg (by omega)]
  rcases hs' with e | e
  · rw [if_pos (by omega), pair_of x _ (by omega), e]
  · rw [if_neg (by omega), pair_of x _ (by omega), e]

/-! ## The loads of the rows a message brought -/

section Loads
variable {m ρ}
variable {K : Dev nD × Cell → ℕ} {c : Dev nD} {T S B A R H : List Msg} {P : List (Option Msg)}

theorem load96 (j : Fin 7) (hμ : ((0, j) : Msg) ∈ H) {off' : Fin 2 → ℕ} {inb} (hoff : off' = ![256 * (org (0, j) c).val + off 0, 0])
    {hl : gM.view.LoadsAt (Rect.unit (s := S2048x2048) off' S96x2048.size inb).toLoadRect}
    {α : Type} {Q : α → sProp 𝕄} {k : (S96x2048.Idx → Elt F .f32) → Prog (TpuEff nD τ sig (Elt F) Λ₀ .tc) α}
    (h : St m ρ (outAt m ρ) K c T S B A R H P ⊢ run c (k (slab m ρ 96 (256 * (org (0, j) c).val + off 0))) Q) :
    St m ρ (outAt m ρ) K c T S B A R H P ⊢ run c (.op (.load gM (Rect.unit (s := S2048x2048) off' S96x2048.size inb).toLoadRect hl) k) Q := by
  rw [← show gM.view.readAt (Elt F) (Rect.unit (s := S2048x2048) off' S96x2048.size inb).toLoadRect (gath m ρ) = slab m ρ 96 _ from slab_eq m ρ hoff] at h
  exact load_g (0, j) hμ hoff rfl h

theorem load80 (μ : Msg) (hμ : μ ∈ H) (hr : rows μ.1 = 80) {off' : Fin 2 → ℕ} {inb} (hoff : off' = ![256 * (org μ c).val + off μ.1, 0])
    {hl : gM.view.LoadsAt (Rect.unit (s := S2048x2048) off' S80x2048.size inb).toLoadRect}
    {α : Type} {Q : α → sProp 𝕄} {k : (S80x2048.Idx → Elt F .f32) → Prog (TpuEff nD τ sig (Elt F) Λ₀ .tc) α}
    (h : St m ρ (outAt m ρ) K c T S B A R H P ⊢ run c (k (slab m ρ 80 (256 * (org μ c).val + off μ.1))) Q) :
    St m ρ (outAt m ρ) K c T S B A R H P ⊢ run c (.op (.load gM (Rect.unit (s := S2048x2048) off' S80x2048.size inb).toLoadRect hl) k) Q := by
  rw [← show gM.view.readAt (Elt F) (Rect.unit (s := S2048x2048) off' S80x2048.size inb).toLoadRect (gath m ρ) = slab m ρ 80 _ from slab_eq m ρ hoff] at h
  exact load_g μ hμ hoff (by rw [hr]) h

end Loads

end Cert.KernelIdeal.Cube

end
-- ==== Proof.KernelIdeal.Table.lean ====
/-
# The cube all-gather: where each access lands

Which message each access of the program to the gather buffer or the result belongs to, and which device each signal and
transfer names.
-/
module

public import proofs.«01_k».proof.Proof.KernelIdeal.Common
public import proofs.«01_k».proof.Proof.KernelIdeal.Sched

@[expose] public section

namespace Cert.KernelIdeal.Cube

open Cert.KernelIdeal Cert.KernelIdeal.Gen

open Idealize.ShloMosaic

/-- The message whose rows an access to the gather buffer covers. -/
def at4 (r : Fin 7) : Msg := (0, (![0, 1, 3, 2, 4, 5, 6] : Fin 7 → Fin 7) r)
def at5 (r : Fin 14) : Msg :=
  (![(1, 0), (2, 0), (1, 1), (2, 1), (1, 3), (2, 3), (1, 2), (2, 2), (1, 4), (2, 4), (1, 5), (2, 5), (1, 6), (2, 6)] : Fin 14 → Msg) r
def at8 (r : Fin 14) : Msg :=
  (![(1, 0), (2, 0), (1, 1), (1, 3), (2, 1), (2, 3), (1, 2), (2, 2), (1, 4), (2, 4), (1, 5), (2, 5), (1, 6), (2, 6)] : Fin 14 → Msg) r

theorem off4_at : ∀ (c : Dev nD) (r : Fin 7),
    k0_off4 c (k0_off4_at r).1 (k0_off4_at r).2.1 (k0_off4_at r).2.2.1 (k0_off4_at r).2.2.2.1 (k0_off4_at r).2.2.2.2.1
      (k0_off4_at r).2.2.2.2.2.1 (k0_off4_at r).2.2.2.2.2.2.1 (k0_off4_at r).2.2.2.2.2.2.2
      = ![256 * (org (at4 r) c).val + off (at4 r).1, 0] := by decide +kernel
theorem off5_at : ∀ (c : Dev nD) (r : Fin 14),
    k0_off5 c (k0_off5_at r).1 (k0_off5_at r).2.1 (k0_off5_at r).2.2.1 (k0_off5_at r).2.2.2.1 (k0_off5_at r).2.2.2.2.1
      (k0_off5_at r).2.2.2.2.2.1 (k0_off5_at r).2.2.2.2.2.2.1 (k0_off5_at r).2.2.2.2.2.2.2.1 (k0_off5_at r).2.2.2.2.2.2.2.2
      = ![256 * (org (at5 r) c).val + off (at5 r).1, 0] := by decide +kernel
theorem off6_at : ∀ (c : Dev nD) (r : Fin 7),
    k0_off6 c (k0_off6_at r).1 (k0_off6_at r).2.1 (k0_off6_at r).2.2.1 (k0_off6_at r).2.2.2.1 (k0_off6_at r).2.2.2.2.1
      (k0_off6_at r).2.2.2.2.2.1 (k0_off6_at r).2.2.2.2.2.2.1 (k0_off6_at r).2.2.2.2.2.2.2
      = ![256 * (org (at4 r) c).val + off (at4 r).1, 0] := by decide +kernel
theorem off7_at : ∀ (c : Dev nD) (r : Fin 7),
    k0_off7 c (k0_off7_at r).1 (k0_off7_at r).2.1 (k0_off7_at r).2.2.1 (k0_off7_at r).2.2.2.1 (k0_off7_at r).2.2.2.2.1
      (k0_off7_at r).2.2.2.2.2.1 (k0_off7_at r).2.2.2.2.2.2.1 (k0_off7_at r).2.2.2.2.2.2.2
      = ![256 * (org (at4 r) c).val + off (at4 r).1, 0] := by decide +kernel
theorem off8_at : ∀ (c : Dev nD) (r : Fin 14),
    k0_off8 c (k0_off8_at r).1 (k0_off8_at r).2.1 (k0_off8_at r).2.2.1 (k0_off8_at r).2.2.2.1 (k0_off8_at r).2.2.2.2.1
      (k0_off8_at r).2.2.2.2.2.1 (k0_off8_at r).2.2.2.2.2.2.1 (k0_off8_at r).2.2.2.2.2.2.2.1 (k0_off8_at r).2.2.2.2.2.2.2.2
      = ![256 * (org (at8 r) c).val + off (at8 r).1, 0] := by decide +kernel
theorem off9_at : ∀ (c : Dev nD) (r : Fin 14),
    k0_off9 c (k0_off9_at r).1 (k0_off9_at r).2.1 (k0_off9_at r).2.2.1 (k0_off9_at r).2.2.2.1 (k0_off9_at r).2.2.2.2.1
      (k0_off9_at r).2.2.2.2.2.1 (k0_off9_at r).2.2.2.2.2.2.1 (k0_off9_at r).2.2.2.2.2.2.2.1 (k0_off9_at r).2.2.2.2.2.2.2.2
      = ![256 * (org (at8 r) c).val + off (at8 r).1, 0] := by decide +kernel

/-- The devices the program's signals name, -/
theorem bar_devs : ∀ c : Dev nD, k0_dev1 c = (peer 0 c).val ∧ k0_dev2 c = (peer 1 c).val ∧ k0_dev3 c = (peer 2 c).val := by decide +kernel
/-- and its transfers, in its order. -/
def devOf : Fin 21 → Dev nD → ℕ :=
  ![k0_dev4, k0_dev5, k0_dev6, k0_dev7, k0_dev8, k0_dev9, k0_dev10, k0_dev11, k0_dev12, k0_dev13, k0_dev14, k0_dev15, k0_dev16, k0_dev17,
    k0_dev18, k0_dev19, k0_dev20, k0_dev21, k0_dev22, k0_dev23, k0_dev24]
theorem dev_at : ∀ (c : Dev nD) (i : Fin 21), devOf i c = (dst (order.getD i.val (0, 0)) c).val := by decide +kernel

theorem off1_at : ∀ c : Dev nD, k0_off1 c = ![256 * c.val + off 0, 0] := by decide +kernel
theorem off2_at : ∀ (c : Dev nD) (r : Fin 2), k0_off2 c (BitVec.ofNat 32 (96 + 80 * r.val)) = ![256 * c.val + off r.succ, 0] := by decide +kernel

end Cert.KernelIdeal.Cube
-- ==== Proof.KernelIdeal.Parts.lean ====
/-
# The cube all-gather: a device's program, part by part

Each part of the program takes a device from one point to a later one: so many messages sent, so many received, so many parts
of the result stored.
-/
module

public import proofs.«01_k».proof.Proof.KernelIdeal.Out
public import proofs.«01_k».proof.Proof.KernelIdeal.Table

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

/-- The messages in the order a device waits for them. -/
def arrival : List Msg :=
  [(0, 0), (1, 0), (2, 0), (0, 1), (1, 1), (2, 1), (0, 3), (1, 3), (2, 3), (0, 2), (1, 2), (2, 2), (0, 4), (1, 4), (2, 4),
    (0, 5), (1, 5), (2, 5), (0, 6), (1, 6), (2, 6)]

/-- The parts of the result in the order a device stores them. -/
def stores : List (Option Msg) :=
  [none, some (0, 0), some (1, 0), some (2, 0), some (0, 1), some (0, 3), some (1, 1), some (1, 3), some (2, 1), some (2, 3),
    some (0, 2), some (1, 2), some (2, 2), some (0, 4), some (1, 4), some (2, 4), some (0, 5), some (1, 5), some (2, 5),
    some (0, 6), some (1, 6), some (2, 6)]

/-- A device after `i` transfers, `j` waits on receive cells and `p` stores, the shares for the messages `A` still to lend. -/
abbrev At (m : (ℓ : Loc nD τ sig) → Buf (Elt F) ℓ) (ρ : Dev nD → PrngReg) (K : Dev nD × Cell → ℕ) (c : Dev nD) (i j p : ℕ) (A : List Msg) : sProp 𝕄 :=
  St m ρ (outAt m ρ) K c (order.drop i) (order.take i).reverse [] A (arrival.drop j) (arrival.take j).reverse (stores.take p).reverse

/-- A part of the program on the kernel's buffers. -/
abbrev bufs {β : Type 1}
    (p : (arg0 : Memref sig .tc .vmem S256x2048 .f32) → arg0.IsWhole → (arg1 : Memref sig .tc .vmem S2048x256 .f32) → arg1.IsWhole →
      (arg2 : Memref sig .tc .vmem S2048x256 .f32) → arg2.IsWhole → (arg3 : Memref sig .tc .vmem S2048x2048 .f32) → arg3.IsWhole →
      DmaSems sig S3x7 → DmaSems sig S3x7 → β) : β :=
  p (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) cc0_scratch1 cc0_scratch2

/-- A part without operations. -/
theorem quiet {X : sProp 𝕄} {c : Dev nD} {α β : Type} {p : Prog (TpuEff nD τ sig (Elt F) Λ₀ .tc) β}
    {k : β → Prog (TpuEff nD τ sig (Elt F) Λ₀ .tc) α} {Q : α → sProp 𝕄} (hp : ∃ r, p = .ret r)
    (h : ∀ r, X ⊢ run c (k r) Q) : X ⊢ run c (p >>= k) Q := by
  obtain ⟨r, rfl⟩ := hp; exact h r

/-- The kernel's block of `w` as its products take it, and the rows a message brought. -/
abbrev wv (m : (ℓ : Loc nD τ sig) → Buf (Elt F) ℓ) (ρ : Dev nD → PrngReg) (c : Dev nD) : FVec F S2048x256 .f32 := k0_pay1 (wstg m ρ c)
abbrev got96 (m : (ℓ : Loc nD τ sig) → Buf (Elt F) ℓ) (ρ : Dev nD → PrngReg) (c : Dev nD) (j : Fin 7) : Vec F S96x2048 .f32 :=
  slab m ρ 96 (256 * (org (0, j) c).val + off 0)
abbrev got80 (m : (ℓ : Loc nD τ sig) → Buf (Elt F) ℓ) (ρ : Dev nD → PrngReg) (c : Dev nD) (μ : Msg) : Vec F S80x2048 .f32 :=
  slab m ρ 80 (256 * (org μ c).val + off μ.1)

section Parts
variable {K : Dev nD × Cell → ℕ} {c : Dev nD} {α : Type} {w₁ w₂ w₃ w₄ w₅ w₆ : BitVec 32}

/-- The transfers of the device's own rows; -/
theorem part17 {Q : α → sProp 𝕄} {k} (h : ∀ r, At m ρ K c 1 0 0 ((order.take 9).drop 1) ⊢ run c (k r) Q) :
    At m ρ K c 0 0 0 (order.take 9) ⊢ run c (bufs k0_part17 c w₁ w₂ >>= k) Q := by
  unfold bufs; rw [k0_part17_eq_skeleton]; unfold k0_part17_skel
  simp only [Prog.lift, Prog.bind_op, Prog.bind_ret, Prog.pure_eq_ret]
  refine send_own (0, 0) (by decide) (Fin.ext (dev_at c 0)) rfl (off1_at c) rfl rfl rfl rfl ?_
  exact h _

theorem part18 {Q : α → sProp 𝕄} {k} (h : ∀ r, At m ρ K c 4 0 0 ((order.take 9).drop 4) ⊢ run c (k r) Q) :
    At m ρ K c 1 0 0 ((order.take 9).drop 1) ⊢ run c (bufs k0_part18 c w₁ w₂ w₃ w₄ w₅ >>= k) Q := by
  unfold bufs; rw [k0_part18_eq_skeleton]; unfold k0_part18_skel
  simp only [Prog.lift, Prog.bind_op, Prog.bind_ret, Prog.pure_eq_ret]
  refine send_own (1, 0) (by decide) (Fin.ext (dev_at c 1)) rfl (off2_at c 0) rfl rfl rfl rfl ?_
  refine send_own (2, 0) (by decide) (Fin.ext (dev_at c 2)) rfl (off2_at c 1) rfl rfl rfl rfl ?_
  refine send_own (0, 1) (by decide) (Fin.ext (dev_at c 3)) rfl (off1_at c) rfl rfl rfl rfl ?_
  exact h _

theorem part19 {Q : α → sProp 𝕄} {k} (h : ∀ r, At m ρ K c 6 0 0 ((order.take 9).drop 6) ⊢ run c (k r) Q) :
    At m ρ K c 4 0 0 ((order.take 9).drop 4) ⊢ run c (bufs k0_part19 c w₁ w₂ w₃ w₄ w₅ w₆ >>= k) Q := by
  unfold bufs; rw [k0_part19_eq_skeleton]; unfold k0_part19_skel
  simp only [Prog.lift, Prog.bind_op, Prog.bind_ret, Prog.pure_eq_ret]
  refine send_own (1, 1) (by decide) (Fin.ext (dev_at c 4)) rfl (off2_at c 0) rfl rfl rfl rfl ?_
  refine send_own (2, 1) (by decide) (Fin.ext (dev_at c 5)) rfl (off2_at c 1) rfl rfl rfl rfl ?_
  exact h _

theorem part20 {Q : α → sProp 𝕄} {k} (h : At m ρ K c 9 0 0 [] ⊢ run c (k ⟨k0_pay2 (wv m ρ c) (xstg m ρ c), k0_pay3 (wv m ρ c) (xstg m ρ c), k0_pay4 (wv m ρ c) (xstg m ρ c)⟩) Q) :
    At m ρ K c 6 0 0 ((order.take 9).drop 6) ⊢ run c (bufs k0_part20 c w₁ (wv m ρ c) w₂ w₃ >>= k) Q := by
  unfold bufs; rw [k0_part20_eq_skeleton]; unfold k0_part20_skel
  simp only [Prog.lift, Prog.bind_op, Prog.bind_ret, Prog.pure_eq_ret]
  refine send_own (0, 2) (by decide) (Fin.ext (dev_at c 6)) rfl (off1_at c) rfl rfl rfl rfl ?_
  refine send_own (1, 2) (by decide) (Fin.ext (dev_at c 7)) rfl (off2_at c 0) rfl rfl rfl rfl ?_
  refine send_own (2, 2) (by decide) (Fin.ext (dev_at c 8)) rfl (off2_at c 1) rfl rfl rfl rfl ?_
  refine load_x ?_
  exact h

/-- the product of its own rows; -/
theorem part21 {Q : α → sProp 𝕄} {k} (h : ∀ r, At m ρ K c 9 1 1 [(0, 3), (0, 4)] ⊢ run c (k r) Q) :
    At m ρ K c 9 0 0 [] ⊢ run c (bufs k0_part21 c w₁ w₂ w₃ (k0_pay2 (wv m ρ c) (xstg m ρ c)) (k0_pay3 (wv m ρ c) (xstg m ρ c)) (k0_pay4 (wv m ρ c) (xstg m ρ c)) >>= k) Q := by
  unfold bufs; rw [k0_part21_eq_skeleton]; unfold k0_part21_skel
  simp only [Prog.lift, Prog.bind_op, Prog.bind_ret, Prog.pure_eq_ret]
  refine load_o fun _ => ?_
  refine store_o none (k0_off3_eq c) rfl (stored_own m ρ c (k0_off3_eq c)) ?_
  refine wait_rcv (0, 0) rfl rfl (by decide) ?_
  exact h _

/-- the first messages arrive and go on; -/
theorem part22 {Q : α → sProp 𝕄} {k} (h : ∀ r, At m ρ K c 11 2 1 [(1, 3), (1, 4)] ⊢ run c (k r) Q) :
    At m ρ K c 9 1 1 [(0, 3), (0, 4)] ⊢ run c (bufs k0_part22 c w₁ w₂ w₃ w₄ >>= k) Q := by
  unfold bufs; rw [k0_part22_eq_skeleton]; unfold k0_part22_skel
  simp only [Prog.lift, Prog.bind_op, Prog.bind_ret, Prog.pure_eq_ret]
  refine send_fwd (0, 3) (by decide) (Fin.ext (dev_at c 9)) rfl (off4_at c 0) rfl rfl rfl rfl ?_
  refine send_fwd (0, 4) (by decide) (Fin.ext (dev_at c 10)) rfl (off4_at c 0) rfl rfl rfl rfl ?_
  refine wait_rcv (1, 0) rfl rfl (by decide) ?_
  exact h _

theorem part23 {Q : α → sProp 𝕄} {k} (h : ∀ r, At m ρ K c 13 2 1 [] ⊢ run c (k r) Q) :
    At m ρ K c 11 2 1 [(1, 3), (1, 4)] ⊢ run c (bufs k0_part23 c w₁ w₂ w₃ w₄ w₅ >>= k) Q := by
  unfold bufs; rw [k0_part23_eq_skeleton]; unfold k0_part23_skel
  simp only [Prog.lift, Prog.bind_op, Prog.bind_ret, Prog.pure_eq_ret]
  refine send_fwd (1, 3) (by decide) (Fin.ext (dev_at c 11)) rfl (off5_at c 0) rfl rfl rfl rfl ?_
  refine send_fwd (1, 4) (by decide) (Fin.ext (dev_at c 12)) rfl (off5_at c 0) rfl rfl rfl rfl ?_
  exact h _

theorem part24 {Q : α → sProp 𝕄} {k} (h : ∀ r, At m ρ K c 15 3 1 [] ⊢ run c (k r) Q) :
    At m ρ K c 13 2 1 [] ⊢ run c (bufs k0_part24 c w₁ w₂ w₃ w₄ >>= k) Q := by
  unfold bufs; rw [k0_part24_eq_skeleton]; unfold k0_part24_skel
  simp only [Prog.lift, Prog.bind_op, Prog.bind_ret, Prog.pure_eq_ret]
  refine wait_rcv (2, 0) rfl rfl (by decide) ?_
  refine send_fwd (2, 3) (by decide) (Fin.ext (dev_at c 13)) rfl (off5_at c 1) rfl rfl rfl rfl ?_
  refine send_fwd (2, 4) (by decide) (Fin.ext (dev_at c 14)) rfl (off5_at c 1) rfl rfl rfl rfl ?_
  exact h _

/-- their products; -/
theorem part25 {Q : α → sProp 𝕄} {k} (h : ∀ r, At m ρ K c 15 3 3 [] ⊢ run c (k r) Q) :
    At m ρ K c 15 3 1 [] ⊢ run c (bufs k0_part25 c (wv m ρ c) w₁ w₂ w₃ >>= k) Q := by
  unfold bufs; rw [k0_part25_eq_skeleton]; unfold k0_part25_skel
  simp only [Prog.lift, Prog.bind_op, Prog.bind_ret, Prog.pure_eq_ret]
  refine load96 0 (by decide) (off6_at c 0) ?_
  refine load_o fun _ => ?_
  refine store_o (some (0, 0)) (off7_at c 0) rfl (stored96 m ρ c 0 (off7_at c 0)) ?_
  refine load80 (1, 0) (by decide) rfl (off8_at c 0) ?_
  refine load_o fun _ => ?_
  refine store_o (some (1, 0)) (off9_at c 0) rfl (stored80 m ρ c (1, 0) (by decide) (off9_at c 0)) ?_
  exact h _

theorem part26 {Q : α → sProp 𝕄} {k} (h : ∀ r, At m ρ K c 15 4 4 [(0, 5)] ⊢ run c (k r) Q) :
    At m ρ K c 15 3 3 [] ⊢ run c (bufs k0_part26 c w₁ (wv m ρ c) w₂ w₃ >>= k) Q := by
  unfold bufs; rw [k0_part26_eq_skeleton]; unfold k0_part26_skel
  simp only [Prog.lift, Prog.bind_op, Prog.bind_ret, Prog.pure_eq_ret]
  refine load80 (2, 0) (by decide) rfl (off8_at c 1) ?_
  refine load_o fun _ => ?_
  refine store_o (some (2, 0)) (off9_at c 1) rfl (stored80 m ρ c (2, 0) (by decide) (off9_at c 1)) ?_
  refine wait_rcv (0, 1) rfl rfl (by decide) ?_
  exact h _

/-- the second messages arrive and go on; -/
theorem part27 {Q : α → sProp 𝕄} {k} (h : ∀ r, At m ρ K c 16 5 4 [(1, 5)] ⊢ run c (k r) Q) :
    At m ρ K c 15 4 4 [(0, 5)] ⊢ run c (bufs k0_part27 c w₁ w₂ w₃ w₄ >>= k) Q := by
  unfold bufs; rw [k0_part27_eq_skeleton]; unfold k0_part27_skel
  simp only [Prog.lift, Prog.bind_op, Prog.bind_ret, Prog.pure_eq_ret]
  refine send_fwd (0, 5) (by decide) (Fin.ext (dev_at c 15)) rfl (off4_at c 1) rfl rfl rfl rfl ?_
  refine wait_rcv (1, 1) rfl rfl (by decide) ?_
  exact h _

theorem part28 {Q : α → sProp 𝕄} {k} (h : ∀ r, At m ρ K c 18 6 4 [] ⊢ run c (k r) Q) :
    At m ρ K c 16 5 4 [(1, 5)] ⊢ run c (bufs k0_part28 c w₁ w₂ w₃ w₄ >>= k) Q := by
  unfold bufs; rw [k0_part28_eq_skeleton]; unfold k0_part28_skel
  simp only [Prog.lift, Prog.bind_op, Prog.bind_ret, Prog.pure_eq_ret]
  refine send_fwd (1, 5) (by decide) (Fin.ext (dev_at c 16)) rfl (off5_at c 2) rfl rfl rfl rfl ?_
  refine wait_rcv (2, 1) rfl rfl (by decide) ?_
  refine send_fwd (2, 5) (by decide) (Fin.ext (dev_at c 17)) rfl (off5_at c 3) rfl rfl rfl rfl ?_
  exact h _

theorem part29 {Q : α → sProp 𝕄} {k} (h : ∀ r, At m ρ K c 19 8 4 [(1, 6)] ⊢ run c (k r) Q) :
    At m ρ K c 18 6 4 [] ⊢ run c (bufs k0_part29 c w₁ w₂ w₃ w₄ >>= k) Q := by
  unfold bufs; rw [k0_part29_eq_skeleton]; unfold k0_part29_skel
  simp only [Prog.lift, Prog.bind_op, Prog.bind_ret, Prog.pure_eq_ret]
  refine wait_rcv (0, 3) rfl rfl (by decide) ?_
  refine send_fwd (0, 6) (by decide) (Fin.ext (dev_at c 18)) rfl (off4_at c 2) rfl rfl rfl rfl ?_
  refine wait_rcv (1, 3) rfl rfl (by decide) ?_
  exact h _

theorem part30 {Q : α → sProp 𝕄} {k} (h : ∀ r, At m ρ K c 20 9 4 [(2, 6)] ⊢ run c (k r) Q) :
    At m ρ K c 19 8 4 [(1, 6)] ⊢ run c (bufs k0_part30 c w₁ w₂ w₃ w₄ >>= k) Q := by
  unfold bufs; rw [k0_part30_eq_skeleton]; unfold k0_part30_skel
  simp only [Prog.lift, Prog.bind_op, Prog.bind_ret, Prog.pure_eq_ret]
  refine send_fwd (1, 6) (by decide) (Fin.ext (dev_at c 19)) rfl (off5_at c 4) rfl rfl rfl rfl ?_
  refine wait_rcv (2, 3) rfl rfl (by decide) ?_
  exact h _

/-- all is sent; the products of what has arrived; -/
theorem part31 {Q : α → sProp 𝕄} {k} (h : ∀ r, At m ρ K c 21 9 5 [] ⊢ run c (k ⟨r, k0_pay10 (wv m ρ c) (got96 m ρ c 3), k0_pay11 (wv m ρ c) (got96 m ρ c 3), k0_pay12 (wv m ρ c) (got96 m ρ c 3)⟩) Q) :
    At m ρ K c 20 9 4 [(2, 6)] ⊢ run c (bufs k0_part31 c (wv m ρ c) w₁ w₂ w₃ >>= k) Q := by
  unfold bufs; rw [k0_part31_eq_skeleton]; unfold k0_part31_skel
  simp only [Prog.lift, Prog.bind_op, Prog.bind_ret, Prog.pure_eq_ret]
  refine send_fwd (2, 6) (by decide) (Fin.ext (dev_at c 20)) rfl (off5_at c 5) rfl rfl rfl rfl ?_
  refine load96 1 (by decide) (off6_at c 1) ?_
  refine load_o fun _ => ?_
  refine store_o (some (0, 1)) (off7_at c 1) rfl (stored96 m ρ c 1 (off7_at c 1)) ?_
  refine load96 3 (by decide) (off6_at c 2) ?_
  exact h _

theorem part32 {Q : α → sProp 𝕄} {k} (h : ∀ r, At m ρ K c 21 9 7 [] ⊢ run c (k ⟨r, k0_pay15 (wv m ρ c) (got80 m ρ c (1, 3)), k0_pay16 (wv m ρ c) (got80 m ρ c (1, 3)), k0_pay17 (wv m ρ c) (got80 m ρ c (1, 3))⟩) Q) :
    At m ρ K c 21 9 5 [] ⊢ run c (bufs k0_part32 c (wv m ρ c) w₁ w₂ w₃ (k0_pay10 (wv m ρ c) (got96 m ρ c 3)) (k0_pay11 (wv m ρ c) (got96 m ρ c 3)) (k0_pay12 (wv m ρ c) (got96 m ρ c 3)) >>= k) Q := by
  unfold bufs; rw [k0_part32_eq_skeleton]; unfold k0_part32_skel
  simp only [Prog.lift, Prog.bind_op, Prog.bind_ret, Prog.pure_eq_ret]
  refine load_o fun _ => ?_
  refine store_o (some (0, 3)) (off7_at c 2) rfl (stored96 m ρ c 3 (off7_at c 2)) ?_
  refine load80 (1, 1) (by decide) rfl (off8_at c 2) ?_
  refine load_o fun _ => ?_
  refine store_o (some (1, 1)) (off9_at c 2) rfl (stored80 m ρ c (1, 1) (by decide) (off9_at c 2)) ?_
  refine load80 (1, 3) (by decide) rfl (off8_at c 3) ?_
  exact h _

theorem part33 {Q : α → sProp 𝕄} {k} (h : ∀ r, At m ρ K c 21 9 9 [] ⊢ run c (k ⟨r, k0_pay20 (wv m ρ c) (got80 m ρ c (2, 3)), k0_pay21 (wv m ρ c) (got80 m ρ c (2, 3)), k0_pay22 (wv m ρ c) (got80 m ρ c (2, 3))⟩) Q) :
    At m ρ K c 21 9 7 [] ⊢ run c (bufs k0_part33 c (wv m ρ c) w₁ w₂ w₃ (k0_pay15 (wv m ρ c) (got80 m ρ c (1, 3))) (k0_pay16 (wv m ρ c) (got80 m ρ c (1, 3))) (k0_pay17 (wv m ρ c) (got80 m ρ c (1, 3))) >>= k) Q := by
  unfold bufs; rw [k0_part33_eq_skeleton]; unfold k0_part33_skel
  simp only [Prog.lift, Prog.bind_op, Prog.bind_ret, Prog.pure_eq_ret]
  refine load_o fun _ => ?_
  refine store_o (some (1, 3)) (off9_at c 3) rfl (stored80 m ρ c (1, 3) (by decide) (off9_at c 3)) ?_
  refine load80 (2, 1) (by decide) rfl (off8_at c 4) ?_
  refine load_o fun _ => ?_
  refine store_o (some (2, 1)) (off9_at c 4) rfl (stored80 m ρ c (2, 1) (by decide) (off9_at c 4)) ?_
  refine load80 (2, 3) (by decide) rfl (off8_at c 5) ?_
  exact h _

/-- and the rest, as it arrives. -/
theorem part34 {Q : α → sProp 𝕄} {k} (h : ∀ r, At m ρ K c 21 11 10 [] ⊢ run c (k r) Q) :
    At m ρ K c 21 9 9 [] ⊢ run c (bufs k0_part34 c w₁ w₂ w₃ w₄ (k0_pay20 (wv m ρ c) (got80 m ρ c (2, 3))) (k0_pay21 (wv m ρ c) (got80 m ρ c (2, 3))) (k0_pay22 (wv m ρ c) (got80 m ρ c (2, 3))) >>= k) Q := by
  unfold bufs; rw [k0_part34_eq_skeleton]; unfold k0_part34_skel
  simp only [Prog.lift, Prog.bind_op, Prog.bind_ret, Prog.pure_eq_ret]
  refine load_o fun _ => ?_
  refine store_o (some (2, 3)) (off9_at c 5) rfl (stored80 m ρ c (2, 3) (by decide) (off9_at c 5)) ?_
  refine wait_rcv (0, 2) rfl rfl (by decide) ?_
  refine wait_rcv (1, 2) rfl rfl (by decide) ?_
  exact h _

theorem part35 {Q : α → sProp 𝕄} {k} (h : ∀ r, At m ρ K c 21 12 11 [] ⊢ run c (k ⟨r, (got80 m ρ c (1, 2)), constant S80x256 .f32 0x00000000#32⟩) Q) :
    At m ρ K c 21 11 10 [] ⊢ run c (bufs k0_part35 c w₁ (wv m ρ c) w₂ w₃ w₄ w₅ >>= k) Q := by
  unfold bufs; rw [k0_part35_eq_skeleton]; unfold k0_part35_skel
  simp only [Prog.lift, Prog.bind_op, Prog.bind_ret, Prog.pure_eq_ret]
  refine wait_rcv (2, 2) rfl rfl (by decide) ?_
  refine load96 2 (by decide) (off6_at c 3) ?_
  refine load_o fun _ => ?_
  refine store_o (some (0, 2)) (off7_at c 3) rfl (stored96 m ρ c 2 (off7_at c 3)) ?_
  refine load80 (1, 2) (by decide) rfl (off8_at c 6) ?_
  exact h _

theorem part36 {Q : α → sProp 𝕄} {k} (h : ∀ r, At m ρ K c 21 12 13 [] ⊢ run c (k r) Q) :
    At m ρ K c 21 12 11 [] ⊢ run c (bufs k0_part36 c (wv m ρ c) w₁ w₂ w₃ (got80 m ρ c (1, 2)) (constant S80x256 .f32 0x00000000#32) >>= k) Q := by
  unfold bufs; rw [k0_part36_eq_skeleton]; unfold k0_part36_skel
  simp only [Prog.lift, Prog.bind_op, Prog.bind_ret, Prog.pure_eq_ret]
  refine load_o fun _ => ?_
  refine store_o (some (1, 2)) (off9_at c 6) rfl (stored80 m ρ c (1, 2) (by decide) (off9_at c 6)) ?_
  refine load80 (2, 2) (by decide) rfl (off8_at c 7) ?_
  refine load_o fun _ => ?_
  refine store_o (some (2, 2)) (off9_at c 7) rfl (stored80 m ρ c (2, 2) (by decide) (off9_at c 7)) ?_
  exact h _

theorem part37 {Q : α → sProp 𝕄} {k} (h : ∀ r, At m ρ K c 21 14 13 [] ⊢ run c (k r) Q) :
    At m ρ K c 21 12 13 [] ⊢ run c (bufs k0_part37 c w₁ w₂ w₃ >>= k) Q := by
  unfold bufs; rw [k0_part37_eq_skeleton]; unfold k0_part37_skel
  simp only [Prog.lift, Prog.bind_op, Prog.bind_ret, Prog.pure_eq_ret]
  refine wait_rcv (0, 4) rfl rfl (by decide) ?_
  refine wait_rcv (1, 4) rfl rfl (by decide) ?_
  exact h _

theorem part38 {Q : α → sProp 𝕄} {k} (h : At m ρ K c 21 15 14 [] ⊢ run c (k (k0_pay28 (wv m ρ c) (got80 m ρ c (1, 4)))) Q) :
    At m ρ K c 21 14 13 [] ⊢ run c (bufs k0_part38 c (wv m ρ c) w₁ w₂ >>= k) Q := by
  unfold bufs; rw [k0_part38_eq_skeleton]; unfold k0_part38_skel
  simp only [Prog.lift, Prog.bind_op, Prog.bind_ret, Prog.pure_eq_ret]
  refine wait_rcv (2, 4) rfl rfl (by decide) ?_
  refine load96 4 (by decide) (off6_at c 4) ?_
  refine load_o fun _ => ?_
  refine store_o (some (0, 4)) (off7_at c 4) rfl (stored96 m ρ c 4 (off7_at c 4)) ?_
  refine load80 (1, 4) (by decide) rfl (off8_at c 8) ?_
  refine load_o fun _ => ?_
  exact h

theorem part39 {Q : α → sProp 𝕄} {k} (h : ∀ r, At m ρ K c 21 16 16 [] ⊢ run c (k r) Q) :
    At m ρ K c 21 15 14 [] ⊢ run c (bufs k0_part39 c w₁ (wv m ρ c) w₂ w₃ w₄ (k0_pay28 (wv m ρ c) (got80 m ρ c (1, 4))) >>= k) Q := by
  unfold bufs; rw [k0_part39_eq_skeleton]; unfold k0_part39_skel
  simp only [Prog.lift, Prog.bind_op, Prog.bind_ret, Prog.pure_eq_ret]
  refine store_o (some (1, 4)) (off9_at c 8) rfl (stored80 m ρ c (1, 4) (by decide) (off9_at c 8)) ?_
  refine load80 (2, 4) (by decide) rfl (off8_at c 9) ?_
  refine load_o fun _ => ?_
  refine store_o (some (2, 4)) (off9_at c 9) rfl (stored80 m ρ c (2, 4) (by decide) (off9_at c 9)) ?_
  refine wait_rcv (0, 5) rfl rfl (by decide) ?_
  exact h _

theorem part40 {Q : α → sProp 𝕄} {k} (h : ∀ r, At m ρ K c 21 18 16 [] ⊢ run c (k ⟨r, k0_pay31 (wv m ρ c) (got96 m ρ c 5), k0_pay32 (wv m ρ c) (got96 m ρ c 5), k0_pay33⟩) Q) :
    At m ρ K c 21 16 16 [] ⊢ run c (bufs k0_part40 c w₁ (wv m ρ c) w₂ w₃ w₄ >>= k) Q := by
  unfold bufs; rw [k0_part40_eq_skeleton]; unfold k0_part40_skel
  simp only [Prog.lift, Prog.bind_op, Prog.bind_ret, Prog.pure_eq_ret]
  refine wait_rcv (1, 5) rfl rfl (by decide) ?_
  refine wait_rcv (2, 5) rfl rfl (by decide) ?_
  refine load96 5 (by decide) (off6_at c 5) ?_
  exact h _

theorem part41 {Q : α → sProp 𝕄} {k} (h : ∀ r, At m ρ K c 21 18 18 [] ⊢ run c (k ⟨r, k0_pay37 (wv m ρ c) (got80 m ρ c (2, 5)), k0_pay38 (wv m ρ c) (got80 m ρ c (2, 5)), k0_pay39⟩) Q) :
    At m ρ K c 21 18 16 [] ⊢ run c (bufs k0_part41 c (wv m ρ c) w₁ w₂ w₃ (k0_pay31 (wv m ρ c) (got96 m ρ c 5)) (k0_pay32 (wv m ρ c) (got96 m ρ c 5)) k0_pay33 >>= k) Q := by
  unfold bufs; rw [k0_part41_eq_skeleton]; unfold k0_part41_skel
  simp only [Prog.lift, Prog.bind_op, Prog.bind_ret, Prog.pure_eq_ret]
  refine load_o fun _ => ?_
  refine store_o (some (0, 5)) (off7_at c 5) rfl (stored96 m ρ c 5 (off7_at c 5)) ?_
  refine load80 (1, 5) (by decide) rfl (off8_at c 10) ?_
  refine load_o fun _ => ?_
  refine store_o (some (1, 5)) (off9_at c 10) rfl (stored80 m ρ c (1, 5) (by decide) (off9_at c 10)) ?_
  refine load80 (2, 5) (by decide) rfl (off8_at c 11) ?_
  exact h _

theorem part42 {Q : α → sProp 𝕄} {k} (h : ∀ r, At m ρ K c 21 20 19 [] ⊢ run c (k r) Q) :
    At m ρ K c 21 18 18 [] ⊢ run c (bufs k0_part42 c w₁ w₂ w₃ w₄ w₅ (k0_pay37 (wv m ρ c) (got80 m ρ c (2, 5))) (k0_pay38 (wv m ρ c) (got80 m ρ c (2, 5))) k0_pay39 >>= k) Q := by
  unfold bufs; rw [k0_part42_eq_skeleton]; unfold k0_part42_skel
  simp only [Prog.lift, Prog.bind_op, Prog.bind_ret, Prog.pure_eq_ret]
  refine load_o fun _ => ?_
  refine store_o (some (2, 5)) (off9_at c 11) rfl (stored80 m ρ c (2, 5) (by decide) (off9_at c 11)) ?_
  refine wait_rcv (0, 6) rfl rfl (by decide) ?_
  refine wait_rcv (1, 6) rfl rfl (by decide) ?_
  exact h _

theorem part43 {Q : α → sProp 𝕄} {k} (h : ∀ r, At m ρ K c 21 21 20 [] ⊢ run c (k ⟨r, k0_pay42 (wv m ρ c) (got80 m ρ c (1, 6)), k0_pay43⟩) Q) :
    At m ρ K c 21 20 19 [] ⊢ run c (bufs k0_part43 c w₁ (wv m ρ c) w₂ w₃ w₄ >>= k) Q := by
  unfold bufs; rw [k0_part43_eq_skeleton]; unfold k0_part43_skel
  simp only [Prog.lift, Prog.bind_op, Prog.bind_ret, Prog.pure_eq_ret]
  refine wait_rcv (2, 6) rfl rfl (by decide) ?_
  refine load96 6 (by decide) (off6_at c 6) ?_
  refine load_o fun _ => ?_
  refine store_o (some (0, 6)) (off7_at c 6) rfl (stored96 m ρ c 6 (off7_at c 6)) ?_
  refine load80 (1, 6) (by decide) rfl (off8_at c 12) ?_
  exact h _

theorem part44 {Q : α → sProp 𝕄} {k} (h : ∀ r, At m ρ K c 21 21 22 [] ⊢ run c (k r) Q) :
    At m ρ K c 21 21 20 [] ⊢ run c (bufs k0_part44 c (wv m ρ c) w₁ w₂ (k0_pay42 (wv m ρ c) (got80 m ρ c (1, 6))) k0_pay43 >>= k) Q := by
  unfold bufs; rw [k0_part44_eq_skeleton]; unfold k0_part44_skel
  simp only [Prog.lift, Prog.bind_op, Prog.bind_ret, Prog.pure_eq_ret]
  refine load_o fun _ => ?_
  refine store_o (some (1, 6)) (off9_at c 12) rfl (stored80 m ρ c (1, 6) (by decide) (off9_at c 12)) ?_
  refine load80 (2, 6) (by decide) rfl (off8_at c 13) ?_
  refine load_o fun _ => ?_
  refine store_o (some (2, 6)) (off9_at c 13) rfl (stored80 m ρ c (2, 6) (by decide) (off9_at c 13)) ?_
  exact h _

end Parts

end Cert.KernelIdeal.Cube

end
-- ==== Proof.KernelIdeal.Barrier.lean ====
/-
# The cube all-gather: the barrier

Before its first transfer a device tells its three neighbours that the places their messages will land in are free: it signals
each and waits for the three.
-/
module

public import proofs.«01_k».proof.Proof.KernelIdeal.Steps

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

/-- What a device owes while it has the neighbours along the axes `ax` to signal. -/
def oweBar (c : Dev nD) : List (Fin 3) → CellTallies nD τ sig Unit
  | [] => owe c order
  | a :: ax => oweBar c ax + tallyAt (barCell (peer a c)) () 1

theorem O₀_eq (c : Dev nD) : O₀ c = oweBar c [0, 1, 2] := rfl

/-- What a signal along axis `a` takes: its token, and the places for the messages that arrive along the axis. -/
def toSignal (c : Dev nD) (a : Fin 3) : sProp 𝕄 :=
  iprop(dutyTok ER (barCell (peer a c)) 0 a ∗ bigSepL (along a) (fun μ => raw (F := F) μ.1 (org μ c) c))

/-- A device before its barrier is over, `X` besides. -/
def Bar (K : Dev nD × Cell → ℕ) (c : Dev nD) (ax : List (Fin 3)) (X : sProp 𝕄) : sProp 𝕄 :=
  iprop(known m ρ K ∗ (∃ W, owes (c : Thread nD τ) (oweBar c ax) W) ∗ bigSepL ax (toSignal c)
    ∗ cred (tallyAt (barCell c) () 3) ∗ atPos ER (barCell c) 0 ∅ 0 ∗ X)

theorem dst_along {a : Fin 3} {μ : Msg} (h : μ ∈ along a) (c : Dev nD) : dst μ (peer a c) = c := by
  unfold along at h
  rw [List.mem_filter] at h
  have e : dirOf μ = a := of_decide_eq_true h.2
  unfold dst; rw [e]; exact peer_peer a c

omit [FloatOps F] in
theorem bigSepL_eq {I : Type} {l : List I} {Φ Ψ : I → sProp 𝕄} (h : ∀ i ∈ l, Φ i = Ψ i) : bigSepL l Φ = bigSepL l Ψ := by
  induction l with
  | nil => rw [bigSepL_nil, bigSepL_nil]
  | cons i l ih => rw [bigSepL_cons', bigSepL_cons', h i List.mem_cons_self, ih fun j hj => h j (List.mem_cons_of_mem _ hj)]

omit [FloatOps F] in
/-- The places a device frees are where its neighbours' messages land. -/
theorem freed (c : Dev nD) (a : Fin 3) :
    bigSepL (along a) (fun μ => raw μ.1 (org μ c) c) = (bigSepL (along a) (slot (peer a c)) : sProp 𝕄) :=
  bigSepL_eq fun μ hμ => by unfold slot; rw [dst_along hμ c]

section Barrier
variable {m ρ}
variable {K : Dev nD × Cell → ℕ} {c : Dev nD}

/-- A signal to the neighbour along axis `a`. -/
theorem signal_bar (a : Fin 3) {ax : List (Fin 3)} {n : Dev nD} (hn : n = peer a c) {q : Sem sig} (hq : q = barS) {z : ℤ} (hz : z = ((1 : ℕ) : ℤ))
    {α : Type} {Q : α → sProp 𝕄} {X : sProp 𝕄} {k : PUnit → Prog (TpuEff nD τ sig (Elt F) Λ₀ .tc) α}
    (h : Bar m ρ K c ax X ⊢ run c (k ⟨⟩) Q) :
    Bar m ρ K c (a :: ax) X ⊢ run c (.op (.semSignal (n, .tc) q z) k) Q := by
  subst hn hq hz
  unfold Bar run
  rw [bigSepL_cons']
  unfold toSignal
  iintro ⟨#HK, ⟨%W, HO⟩, ⟨⟨Htok, Hraw⟩, HS⟩, Hc, Ha, HX⟩
  ihave Hb := (known_cell m ρ K (peer a c, Cell.bar)) $$ HK
  icases Hb with ⟨#Hi, #Hr⟩
  have hstep := Rounds.wp_signal 𝒱₀ ER (rd m ρ) (c : Thread nD τ) none (defs := defs₀ (F := F)) (Γ := .empty) (Q := Q) (k := k)
    (dst := (peer a c : Thread nD τ)) (sem := barS) (r := 0) (κ := K (peer a c, Cell.bar)) (d := a) (k' := 1) (Es := Set.univ)
    (by rw [show (((peer a c : Dev nD) : Thread nD τ), SemLoc.reg barS) = kcell (peer a c, Cell.bar) from rfl, duties_cell]; exact Finset.mem_univ _)
    (amount_cell m ρ (peer a c) Cell.bar a) () (oweBar c ax) rfl (W := W)
  iapply hstep $$ [HO Htok Hraw]
  · isplitr; · iexact Hi
    isplitl [HO]; · iexact HO
    isplitl [Htok]; · iexact Htok
    isplitl [Hraw]
    · iapply (show bigSepL (along a) (fun μ => raw (F := F) μ.1 (org μ c) c) ⊢ (rd m ρ).payload ((peer a c : Thread nD τ), .reg barS) 0 a from
        Entails.of_eq ((freed c a).trans (payload_cell m ρ (peer a c) Cell.bar a).symm))
      iexact Hraw
    iexact Hr
  iintro HO
  iapply (show _ ⊢ wp frame (wpE (defs₀ (F := F)) 𝒱₀ (c : Thread nD τ) none) Set.univ (k ⟨⟩) Q from h)
  unfold Bar toSignal
  isplitr; · iexact HK
  isplitl [HO]; · iexists _; iexact HO
  isplitl [HS]; · iexact HS
  isplitl [Hc]; · iexact Hc
  isplitl [Ha] <;> iassumption

/-- The wait for the three neighbours: the places for the device's own messages, and its barrier cell closed. -/
theorem wait_bar {q : Sem sig} (hq : q = barS) {z : ℤ} (hz : z = ((3 : ℕ) : ℤ))
    {α : Type} {Q : α → sProp 𝕄} {X : sProp 𝕄} {k : PUnit → Prog (TpuEff nD τ sig (Elt F) Λ₀ .tc) α}
    (h : iprop(known m ρ K ∗ (∃ W, owes (c : Thread nD τ) (owe c order) W) ∗ bigSepL (along 0 ++ (along 1 ++ along 2)) (slot c)
      ∗ semVal (barCell c) 0 ∗ X) ⊢ run c (k ⟨⟩) Q) :
    Bar m ρ K c [] X ⊢ run c (.op (.semWait q z) k) Q := by
  subst hq hz
  unfold Bar run
  iintro ⟨#HK, ⟨%W, HO⟩, -, Hc, Ha, HX⟩
  ihave Hb := (known_cell m ρ K (c, Cell.bar)) $$ HK
  icases Hb with ⟨#Hi, -⟩
  ihave Hlev := (known_lev m ρ K) $$ HK
  have hstep := Rounds.wp_wait_rest_token 𝒱₀ ER (rd m ρ) (c : Thread nD τ) none (defs := defs₀ (F := F)) (Γ := .empty) (Q := Q) (k := k)
    (κ := K (c, Cell.bar)) (sm := csem Cell.bar) (k' := 3) (w := .semWait barS ((3 : ℕ) : ℤ)) (Es := Set.univ)
    (wpE_semWait_eq 𝒱₀ (c : Thread nD τ) none Set.univ) (Set.mem_univ _) ()
    (O := owe c order) (W := W) (R := 0) (m := 0) (T := ∅) (by rw [Nat.zero_add]; exact (expect_bar m ρ c).symm)
  iapply hstep $$ [HO Hc Ha Hlev]
  · isplitr; · iexact Hi
    isplitl [Hc]; · iexact Hc
    isplitl [HO]; · iexact HO
    isplitl [Hlev]
    · iapply (mayWait_owe c (csem Cell.bar) order (by rw [dec_csem]; decide)); iexact Hlev
    iexact Ha
  iintro ⟨HO, Ha, -, Hpay⟩
  ihave Hp := (Entails.of_eq (rest_bar m ρ c)) $$ Hpay
  imod (Rounds.cell_close ER (rd m ρ) (Set.mem_univ (K (c, Cell.bar))) (fun h => h) (R := 0 + 1) (duties_later m ρ (barCell c))) $$ [Ha] with Hz
  · isplitr; · iexact Hi
    iexact Ha
  iapply (show _ ⊢ wp frame (wpE (defs₀ (F := F)) 𝒱₀ (c : Thread nD τ) none) Set.univ (k ⟨⟩) Q from h)
  isplitr; · iexact HK
  isplitl [HO]; · iexists _; iexact HO
  isplitl [Hp]; · iexact Hp
  isplitl [Hz] <;> iassumption

/-- What a program does not use it keeps. -/
theorem framed {X Y : sProp 𝕄} {α : Type} {Q : α → sProp 𝕄} {p : Prog (TpuEff nD τ sig (Elt F) Λ₀ .tc) α}
    (h : Y ⊢ run c p (fun a => iprop(X -∗ Q a))) : iprop(X ∗ Y) ⊢ run c p Q := by
  unfold run at h ⊢
  iintro ⟨HX, HY⟩
  iapply (wp_wand frame (wpE (defs₀ (F := F)) 𝒱₀ (c : Thread nD τ) none) Set.univ) $$ [HY]
  · iapply h; iexact HY
  iintro %a H
  iapply H; iexact HX

end Barrier

end Cert.KernelIdeal.Cube

end
-- ==== Proof.KernelIdeal.Body.lean ====
/-
# The cube all-gather: a device's whole program

The parts of the program in a row, from the barrier to the last wait.
-/
module

public import proofs.«01_k».proof.Proof.KernelIdeal.Parts
public import proofs.«01_k».proof.Proof.KernelIdeal.Barrier

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable {m : (ℓ : Loc nD τ sig) → Buf (Elt F) ℓ} {ρ : Dev nD → PrngReg}

section Body
variable {K : Dev nD × Cell → ℕ} {c : Dev nD} {α : Type} {w₁ w₂ w₃ : BitVec 32}

omit [FloatOps F] in
/-- The order of a list does not matter. -/
theorem list_eq {I : Type} [DecidableEq I] {l l' : List I} (h : l.toFinset = l'.toFinset) (hl : l.Nodup) (hl' : l'.Nodup) (Φ : I → sProp 𝕄) :
    bigSepL l Φ = bigSepL l' Φ :=
  (bigSep_eq_bigSepL_of_eq l rfl hl Φ).symm.trans (bigSep_eq_bigSepL_of_eq l' h hl' Φ)

/-- The program asks for the device's number. -/
theorem part1 {X : sProp 𝕄} {Q : α → sProp 𝕄} {k} (h : ∀ w w' w'', X ⊢ run c (k ⟨c, w, w', w''⟩) Q) :
    X ⊢ run c (bufs k0_part1 >>= k) Q := by
  unfold bufs; rw [k0_part1_eq_skeleton]; unfold k0_part1_skel
  simp only [Prog.lift, Prog.bind_op, Prog.bind_ret, Prog.pure_eq_ret, run, wp_deviceId]
  exact h _ _ _

/-- The barrier, and the load of `w`. -/
theorem part2 {Z Y : sProp 𝕄} {Q : α → sProp 𝕄} {k}
    (hY : iprop(known m ρ K ∗ (∃ W, owes (c : Thread nD τ) (owe c order) W) ∗ bigSepL (along 0 ++ (along 1 ++ along 2)) (slot c)
      ∗ semVal (barCell c) 0 ∗ Y) ⊢ iprop(Z ∗ At m ρ K c 0 0 0 (order.take 9)))
    (h : ∀ r, At m ρ K c 0 0 0 (order.take 9) ⊢ run c (k ⟨wv m ρ c, r⟩) fun a => iprop(Z -∗ Q a)) :
    Bar m ρ K c [0, 1, 2] Y ⊢ run c (bufs k0_part2 c w₁ w₂ w₃ >>= k) Q := by
  unfold bufs; rw [k0_part2_eq_skeleton]; unfold k0_part2_skel
  simp only [semSignalWord, semWaitWord, Prog.lift, Prog.bind_op, Prog.bind_ret, Prog.pure_eq_ret]
  refine signal_bar 0 (Fin.ext (bar_devs c).1) rfl rfl ?_
  refine signal_bar 1 (Fin.ext (bar_devs c).2.1) rfl rfl ?_
  refine signal_bar 2 (Fin.ext (bar_devs c).2.2) rfl rfl ?_
  refine wait_bar rfl rfl (hY.trans (framed ?_))
  refine load_w ?_
  exact h _

/-- A device that has sent, received and stored all, after `i` waits on its send cells. -/
abbrev Sent (m : (ℓ : Loc nD τ sig) → Buf (Elt F) ℓ) (ρ : Dev nD → PrngReg) (K : Dev nD × Cell → ℕ) (c : Dev nD) (i : ℕ) : sProp 𝕄 :=
  St m ρ (outAt m ρ) K c [] (order.drop i) (order.take i).reverse [] [] arrival.reverse stores.reverse

/-- The messages in flight, in the order they are waited for. -/
theorem settle : At m ρ K c 21 21 22 [] = Sent m ρ K c 0 := by
  unfold At Sent St
  rw [list_eq (l := (order.take 21).reverse) (l' := order.drop 0) (by decide) (by decide) (by decide)]
  rfl

theorem part45 {Q : α → sProp 𝕄} {k} (h : ∀ r, Sent m ρ K c 5 ⊢ run c (k r) Q) :
    Sent m ρ K c 0 ⊢ run c (bufs k0_part45 c >>= k) Q := by
  unfold bufs; rw [k0_part45_eq_skeleton]; unfold k0_part45_skel
  simp only [Prog.lift, Prog.bind_op, Prog.bind_ret, Prog.pure_eq_ret]
  refine wait_snd (0, 0) rfl rfl ?_
  refine wait_snd (1, 0) rfl rfl ?_
  refine wait_snd (2, 0) rfl rfl ?_
  refine wait_snd (0, 1) rfl rfl ?_
  refine wait_snd (1, 1) rfl rfl ?_
  exact h _

theorem part46 {Q : α → sProp 𝕄} {k} (h : ∀ r, Sent m ρ K c 10 ⊢ run c (k r) Q) :
    Sent m ρ K c 5 ⊢ run c (bufs k0_part46 c >>= k) Q := by
  unfold bufs; rw [k0_part46_eq_skeleton]; unfold k0_part46_skel
  simp only [Prog.lift, Prog.bind_op, Prog.bind_ret, Prog.pure_eq_ret]
  refine wait_snd (2, 1) rfl rfl ?_
  refine wait_snd (0, 2) rfl rfl ?_
  refine wait_snd (1, 2) rfl rfl ?_
  refine wait_snd (2, 2) rfl rfl ?_
  refine wait_snd (0, 3) rfl rfl ?_
  exact h _

theorem part47 {Q : α → sProp 𝕄} {k} (h : ∀ r, Sent m ρ K c 15 ⊢ run c (k r) Q) :
    Sent m ρ K c 10 ⊢ run c (bufs k0_part47 c >>= k) Q := by
  unfold bufs; rw [k0_part47_eq_skeleton]; unfold k0_part47_skel
  simp only [Prog.lift, Prog.bind_op, Prog.bind_ret, Prog.pure_eq_ret]
  refine wait_snd (0, 4) rfl rfl ?_
  refine wait_snd (1, 3) rfl rfl ?_
  refine wait_snd (1, 4) rfl rfl ?_
  refine wait_snd (2, 3) rfl rfl ?_
  refine wait_snd (2, 4) rfl rfl ?_
  exact h _

theorem part48 {Q : α → sProp 𝕄} {k} (h : ∀ r, Sent m ρ K c 20 ⊢ run c (k r) Q) :
    Sent m ρ K c 15 ⊢ run c (bufs k0_part48 c >>= k) Q := by
  unfold bufs; rw [k0_part48_eq_skeleton]; unfold k0_part48_skel
  simp only [Prog.lift, Prog.bind_op, Prog.bind_ret, Prog.pure_eq_ret]
  refine wait_snd (0, 5) rfl rfl ?_
  refine wait_snd (1, 5) rfl rfl ?_
  refine wait_snd (2, 5) rfl rfl ?_
  refine wait_snd (0, 6) rfl rfl ?_
  refine wait_snd (1, 6) rfl rfl ?_
  exact h _

set_option maxHeartbeats 4000000 in
set_option maxRecDepth 65536 in
/-- A device's program, from what the launch deals it to all sent, received, stored and returned. -/
theorem body_run {Z Y : sProp 𝕄} {Q : PUnit → sProp 𝕄}
    (hY : iprop(known m ρ K ∗ (∃ W, owes (c : Thread nD τ) (owe c order) W) ∗ bigSepL (along 0 ++ (along 1 ++ along 2)) (slot c)
      ∗ semVal (barCell c) 0 ∗ Y) ⊢ iprop(Z ∗ At m ρ K c 0 0 0 (order.take 9)))
    (hQ : Sent m ρ K c 21 ⊢ |={Set.univ}=> iprop(Z -∗ Q ⟨⟩)) :
    Bar m ρ K c [0, 1, 2] Y
      ⊢ run c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2) Q := by
  rw [cc0_body_eq_skeleton]; unfold cc0_body_skel
  refine part1 fun w₁ w₂ w₃ => ?_
  refine part2 hY fun w => ?_
  refine quiet ⟨_, rfl⟩ ?_
  rintro ⟨v67, v81, v82, c5_i32_80⟩
  refine quiet ⟨_, rfl⟩ ?_
  rintro ⟨v95, v109, v111⟩
  refine quiet ⟨_, rfl⟩ ?_
  rintro ⟨v123, v137, v139, v140⟩
  refine quiet ⟨_, rfl⟩ ?_
  rintro ⟨v151, v165, v169⟩
  refine quiet ⟨_, rfl⟩ ?_
  rintro ⟨v179, v193, v197, v198⟩
  refine quiet ⟨_, rfl⟩ ?_
  rintro ⟨v207, v221, v227⟩
  refine quiet ⟨_, rfl⟩ ?_
  rintro ⟨v235, v249, v255, v256⟩
  refine quiet ⟨_, rfl⟩ ?_
  rintro ⟨v263, v277, v285⟩
  refine quiet ⟨_, rfl⟩ ?_
  rintro ⟨v291, v305, v313, v314⟩
  refine quiet ⟨_, rfl⟩ ?_
  rintro ⟨v319, v333, v343⟩
  refine quiet ⟨_, rfl⟩ ?_
  rintro ⟨v347, v361, v371, v372⟩
  refine quiet ⟨_, rfl⟩ ?_
  rintro ⟨v375, v389, v401⟩
  refine quiet ⟨_, rfl⟩ ?_
  rintro ⟨v403, v417, v429, v430⟩
  refine quiet ⟨_, rfl⟩ ?_
  rintro ⟨v431, v445, v459⟩
  refine part17 ?_
  rintro ⟨v473, c1_i32_514⟩
  refine part18 ?_
  rintro ⟨v514, c96_i32_541⟩
  refine part19 ?_
  intro _
  refine part20 ?_
  refine part21 ?_
  intro _
  refine part22 ?_
  intro _
  refine part23 ?_
  intro _
  refine part24 ?_
  intro _
  refine part25 ?_
  intro _
  refine part26 ?_
  intro _
  refine part27 ?_
  intro _
  refine part28 ?_
  intro _
  refine part29 ?_
  intro _
  refine part30 ?_
  intro _
  refine part31 ?_
  intro _
  refine part32 ?_
  intro _
  refine part33 ?_
  intro _
  refine part34 ?_
  intro _
  refine part35 ?_
  intro _
  refine part36 ?_
  intro _
  refine part37 ?_
  intro _
  refine part38 ?_
  refine part39 ?_
  intro _
  refine part40 ?_
  intro _
  refine part41 ?_
  intro _
  refine part42 ?_
  intro _
  refine part43 ?_
  intro _
  refine part44 ?_
  intro _
  rw [settle]
  refine part45 ?_
  intro _
  refine part46 ?_
  intro _
  refine part47 ?_
  intro _
  refine part48 ?_
  intro _
  simp only [Prog.lift, Prog.bind_op, Prog.bind_ret, Prog.pure_eq_ret]
  refine wait_snd (2, 6) rfl rfl ?_
  unfold run
  rw [wp_ret]
  exact hQ

end Body

end Cert.KernelIdeal.Cube

end
-- ==== Proof.KernelIdeal.Ends.lean ====
/-
# The cube all-gather: the buffers in pieces, and whole again

The gather buffer is a place for each message and the device's own rows, which no message uses. Of the block of `x` a
device keeps one share whole and lends the other, stream by stream. After the last wait everything lent is back.
-/
module

public import proofs.«01_k».proof.Proof.KernelIdeal.Body

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable (m : (ℓ : Loc nD τ sig) → Buf (Elt F) ℓ) (ρ : Dev nD → PrngReg)

/-! ## The gather buffer -/

/-- The elements of a buffer that are not in a set. -/
def others {ℓ : Loc nD τ sig} (I : Finset (Idx ℓ)) : Finset (Idx ℓ) := Finset.univ \ I

omit [FloatOps F] in
theorem carve {ℓ : Loc nD τ sig} (I : Finset (Idx ℓ)) (f : Buf (Elt F) ℓ) :
    (ℓ ↦{fullShare} f : sProp 𝕄) ⊢ iprop((ℓ ↦[I]{fullShare} f) ∗ ℓ ↦[others I]{fullShare} f) :=
  (pointsTo_split_subset (Finset.subset_univ _)).1
omit [FloatOps F] in
theorem restore {ℓ : Loc nD τ sig} (I : Finset (Idx ℓ)) (f g : Buf (Elt F) ℓ) :
    iprop((ℓ ↦[I]{fullShare} g) ∗ ℓ ↦[others I]{fullShare} f) ⊢ (iprop(∃ f, ℓ ↦{fullShare} f) : sProp 𝕄) := by
  have h : iprop((ℓ ↦[I]{fullShare} g) ∗ ℓ ↦[others I]{fullShare} f) ⊢ (ℓ ↦{fullShare} I.piecewise g f : sProp 𝕄) :=
    pointsTo_join_subset (Finset.subset_univ _)
  refine h.trans ?_
  iintro H
  iexists _
  iexact H

theorem gset_disjoint (s s' : Fin 3) (o o' : Dev nD) (h : ¬ (s = s' ∧ o = o')) : Disjoint (gset s o) (gset s' o') := by
  rw [Finset.disjoint_left]
  intro i hi hi'
  unfold gset gband at hi hi'
  rw [Finset.mem_filter] at hi hi'
  refine h ?_
  have key : ∀ s s' : Fin 3, ∀ r : ℕ, off s ≤ r → r < off s + rows s → off s' ≤ r → r < off s' + rows s' → s = s' := by
    intro s s' r
    fin_cases s <;> fin_cases s' <;> simp [off, rows] <;> omega
  have h1 := off_rows s
  have h2 := off_rows s'
  have ho : o.val = o'.val := by omega
  exact ⟨key s s' ((i 0).val - 256 * o.val) (by omega) (by omega) (by omega) (by omega), Fin.ext ho⟩

set_option maxHeartbeats 4000000 in
theorem org_inj (c : Dev nD) (μ ν : Msg) (h : μ.1 = ν.1 ∧ org μ c = org ν c) : μ = ν := by
  obtain ⟨s, j⟩ := μ; obtain ⟨s', j'⟩ := ν
  have h1 : s = s' := h.1
  subst h1
  have h2 := h.2
  clear h
  revert s j j' c; decide

/-- Where messages land on a device. -/
abbrev places (c : Dev nD) : Finset S2048x2048.Idx := Finset.univ.biUnion fun μ : Msg => gset μ.1 (org μ c)

/-- The other rows. -/
abbrev unplaced (c : Dev nD) : Finset (Idx (gloc c)) := others (ℓ := gloc c) (places c)

theorem places_disjoint (c : Dev nD) : ∀ μ ∈ (Finset.univ : Finset Msg), ∀ ν ∈ (Finset.univ : Finset Msg), μ ≠ ν →
    Disjoint (gset μ.1 (org μ c)) (gset ν.1 (org ν c)) :=
  fun μ _ ν _ h => gset_disjoint _ _ _ _ fun e => h (org_inj c μ ν e)

omit [FloatOps F] in
/-- The gather buffer is the places of the messages, and the rest. -/
theorem gather_split (c : Dev nD) (f : Buf (Elt F) (gloc c)) :
    (gloc c ↦{fullShare} f : sProp 𝕄)
      ⊢ iprop((bigSep Finset.univ fun μ : Msg => raw (F := F) μ.1 (org μ c) c) ∗ gloc c ↦[unplaced c]{fullShare} f) := by
  have h : (gloc c ↦{fullShare} f : sProp 𝕄) ⊢ iprop((gloc c ↦[places c]{fullShare} f) ∗ gloc c ↦[unplaced c]{fullShare} f) :=
    carve (ℓ := gloc c) (places c) f
  have e : (gloc c ↦[places c]{fullShare} f : sProp 𝕄) = bigSep Finset.univ fun μ : Msg => gloc c ↦[gset μ.1 (org μ c)]{fullShare} f :=
    pointsTo_biUnion _ _ (places_disjoint c)
  rw [e] at h
  refine h.trans (sep_mono_left (bigSep_mono fun μ _ => ?_))
  show (gloc c ↦[gset μ.1 (org μ c)]{fullShare} f : sProp 𝕄) ⊢ raw μ.1 (org μ c) c
  unfold raw
  iintro H
  iexists f
  iexact H

omit [FloatOps F] in
/-- What the messages landed and the rest are the gather buffer. -/
theorem gather_join (c : Dev nD) (f : Buf (Elt F) (gloc c)) :
    iprop((bigSep Finset.univ (land m ρ c)) ∗ gloc c ↦[unplaced c]{fullShare} f) ⊢ (iprop(∃ f, gloc c ↦{fullShare} f) : sProp 𝕄) := by
  have e : bigSep Finset.univ (land m ρ c) = (gloc c ↦[places c]{fullShare} gath m ρ : sProp 𝕄) :=
    (pointsTo_biUnion _ _ (places_disjoint c)).symm
  rw [e]
  exact restore (ℓ := gloc c) (places c) f (gath m ρ)

/-! ## The block of `x` -/

/-- The messages that carry own rows, and the ones that carry on what came. -/
theorem order_own (μ : Msg) : μ ∈ order.take 9 → μ.2.val < 3 := by obtain ⟨s, j⟩ := μ; revert s j; decide

theorem xset_disjoint : ∀ s ∈ (Finset.univ : Finset (Fin 3)), ∀ s' ∈ (Finset.univ : Finset (Fin 3)), s ≠ s' → Disjoint (xset s) (xset s') := by
  intro s _ s' _ h
  rw [Finset.disjoint_left]
  intro i hi hi'
  unfold xset xband at hi hi'
  rw [Finset.mem_filter] at hi hi'
  refine h ?_
  have key : ∀ s s' : Fin 3, ∀ r : ℕ, off s ≤ r → r < off s + rows s → off s' ≤ r → r < off s' + rows s' → s = s' := by
    intro s s' r
    fin_cases s <;> fin_cases s' <;> simp [off, rows] <;> omega
  exact key s s' (i 0).val hi.2.1 hi.2.2 hi'.2.1 hi'.2.2

theorem xset_cover : (Finset.univ : Finset (Fin 3)).biUnion xset = Finset.univ := by
  ext i
  refine ⟨fun _ => Finset.mem_univ _, fun _ => ?_⟩
  have hi : (i 0).val < 256 := (i 0).isLt
  rw [Finset.mem_biUnion]
  have mem (s : Fin 3) (h : off s ≤ (i 0).val ∧ (i 0).val < off s + rows s) : ∃ s ∈ (Finset.univ : Finset (Fin 3)), i ∈ xset s :=
    ⟨s, Finset.mem_univ _, Finset.mem_filter.mpr ⟨Finset.mem_univ _, h⟩⟩
  by_cases h1 : (i 0).val < 96
  · exact mem 0 ⟨Nat.zero_le _, h1⟩
  by_cases h2 : (i 0).val < 176
  · exact mem 1 ⟨by show 96 ≤ _; omega, h2⟩
  · exact mem 2 ⟨by show 176 ≤ _; omega, hi⟩

omit [FloatOps F] in
/-- The share of the block of `x` that is lent, message by message. -/
theorem lend_own (c : Dev nD) :
    (xloc c ↦{fullShare.right} xstg m ρ c : sProp 𝕄) ⊣⊢ bigSepL (order.take 9) (lent m ρ c) := by
  have e : (xloc c ↦{fullShare.right} xstg m ρ c : sProp 𝕄) = bigSep Finset.univ fun s : Fin 3 => xAt m ρ s c fullShare.right := by
    have e₀ : (xloc c ↦[(Finset.univ : Finset (Fin 3)).biUnion xset]{fullShare.right} xstg m ρ c : sProp 𝕄)
        = bigSep Finset.univ fun s : Fin 3 => xAt m ρ s c fullShare.right := pointsTo_biUnion _ _ xset_disjoint
    rw [xset_cover] at e₀
    exact e₀
  have l (s : Fin 3) (j : Fin 7) (h : j.val < 3) : lent m ρ c (s, j) = (xAt m ρ s c (lsh j) : sProp 𝕄) := if_pos h
  have p (s : Fin 3) : (xAt m ρ s c fullShare.right : sProp 𝕄) = iprop(lent m ρ c (s, 0) ∗ lent m ρ c (s, 1) ∗ lent m ρ c (s, 2)) := by
    rw [l s 0 (by decide), l s 1 (by decide), l s 2 (by decide)]
    unfold xAt
    exact BI.equiv_iff.mp
      ⟨(pointsTo_share (PosShare.mem_left_op_right fullShare.right)).1.trans
          (sep_mono_right (pointsTo_share (PosShare.mem_left_op_right fullShare.right.right)).1),
        (sep_mono_right (pointsTo_share (PosShare.mem_left_op_right fullShare.right.right)).2).trans
          (pointsTo_share (PosShare.mem_left_op_right fullShare.right)).2⟩
  have q : bigSepL (order.take 9) (lent m ρ c) = (bigSep Finset.univ fun s : Fin 3 => xAt m ρ s c fullShare.right : sProp 𝕄) := by
    rw [list_eq (l := order.take 9) (l' := [(0, 0), (0, 1), (0, 2)] ++ ([(1, 0), (1, 1), (1, 2)] ++ [(2, 0), (2, 1), (2, 2)]))
      (by decide) (by decide) (by decide), bigSepL_append, bigSepL_append, bigSep_univ_eq_bigSepL [0, 1, 2] (by decide) (by decide)]
    simp only [bigSepL_cons_cons, bigSepL_singleton, p]
    rfl
  rw [e, q]

omit [FloatOps F] in
/-- The block of `x` is the share kept and the share lent. -/
theorem x_split (c : Dev nD) :
    (xloc c ↦{fullShare} xstg m ρ c : sProp 𝕄) ⊣⊢ iprop((xloc c ↦{fullShare.left} xstg m ρ c) ∗ bigSepL (order.take 9) (lent m ρ c)) :=
  ⟨(pointsTo_share (PosShare.mem_left_op_right fullShare)).1.trans (sep_mono_right (lend_own m ρ c).1),
    (sep_mono_right (lend_own m ρ c).2).trans (pointsTo_share (PosShare.mem_left_op_right fullShare)).2⟩

/-! ## What was lent comes back -/

omit [FloatOps F] in
theorem flat_eq {I J : Type} (l : List I) (f : I → List J) (Φ : J → sProp 𝕄) :
    bigSepL l (fun i => bigSepL (f i) Φ) = bigSepL (l.flatMap f) Φ := by
  induction l with
  | nil => rw [bigSepL_nil, List.flatMap_nil, bigSepL_nil]
  | cons i l ih => rw [bigSepL_cons', ih, List.flatMap_cons, bigSepL_append]

theorem arrival_nodup : arrival.Nodup := by decide
theorem arrival_univ : (Finset.univ : Finset Msg) = arrival.toFinset := by decide

omit [FloatOps F] in
/-- What was kept of what landed and all that was lent are what landed, and the lent share of `x`. -/
theorem rejoin (c : Dev nD) :
    (iprop(bigSep Finset.univ (kept m ρ c) ∗ bigSep Finset.univ (lent m ρ c)) : sProp 𝕄)
      ⊢ iprop(bigSep Finset.univ (land m ρ c) ∗ bigSepL (order.take 9) (lent m ρ c)) := by
  have e : bigSep Finset.univ (lent m ρ c) = (iprop(bigSepL (order.take 9) (lent m ρ c) ∗ bigSepL (arrival.flatMap fwd) (lent m ρ c)) : sProp 𝕄) := by
    rw [← bigSepL_append]
    exact bigSep_univ_eq_bigSepL (order.take 9 ++ arrival.flatMap fwd) (by decide) (by decide) _
  have d : (iprop(bigSep Finset.univ (kept m ρ c) ∗ bigSepL (arrival.flatMap fwd) (lent m ρ c)) : sProp 𝕄) ⊢ bigSep Finset.univ (land m ρ c) := by
    rw [← flat_eq, ← bigSep_univ_eq_bigSepL arrival arrival_univ arrival_nodup, ← bigSep_sep']
    exact bigSep_mono fun μ _ => (land_split m ρ c μ).2
  rw [e]
  iintro ⟨HK, HO, HF⟩
  isplitr [HO]
  · iapply d
    isplitl [HK] <;> iassumption
  iexact HO

/-! ## The result -/

theorem exists_org (s : Fin 3) (c o : Dev nD) (h : o ≠ c) : ∃ j, org (s, j) c = o := by revert s c o; decide
theorem stores_all (μ : Msg) : some μ ∈ stores := by obtain ⟨s, j⟩ := μ; revert s j; decide

omit [FloatOps F] in
/-- All the parts stored are the whole result. -/
theorem out_whole (out : Dev nD → (cc0_stg2_0 : Ref sig .tc).ty.Contents (Elt F)) (c : Dev nD) :
    outHeld out c stores.reverse ⊢ (oloc c ↦{fullShare} out c : sProp 𝕄) := by
  unfold outHeld
  iintro ⟨%f, %hf, H⟩
  have e : f = out c := by
    funext i
    have hi : ((show S2048x256.Idx from i) 0).val < 2048 := ((show S2048x256.Idx from i) 0).isLt
    have hc : c.val < 8 := c.isLt
    generalize hr : ((show S2048x256.Idx from i) 0).val = r at hi
    by_cases ho : r / 256 = c.val
    · refine hf none (List.mem_reverse.mpr (by decide)) i ?_ ?_
      · show 256 * c.val ≤ ((show S2048x256.Idx from i) 0).val; omega
      · show ((show S2048x256.Idx from i) 0).val < 256 * c.val + 256; omega
    · have in_stream (s : Fin 3) (h1 : off s ≤ r % 256) (h2 : r % 256 < off s + rows s) : f i = out c i := by
        obtain ⟨j, hj⟩ := exists_org s c (⟨r / 256, by show _ < 8; omega⟩ : Fin 8) (fun e => ho (congrArg Fin.val e))
        have hv : (org (s, j) c).val = r / 256 := congrArg Fin.val hj
        refine hf (some (s, j)) (List.mem_reverse.mpr (stores_all _)) i ?_ ?_
        · show 256 * (org (s, j) c).val + off s ≤ ((show S2048x256.Idx from i) 0).val; omega
        · show ((show S2048x256.Idx from i) 0).val < 256 * (org (s, j) c).val + off s + rows s; omega
      by_cases h1 : r % 256 < 96
      · exact in_stream 0 (Nat.zero_le _) h1
      by_cases h2 : r % 256 < 176
      · exact in_stream 1 (by show 96 ≤ _; omega) h2
      · exact in_stream 2 (by show 176 ≤ _; omega) (by show _ < 256; omega)
  subst e
  iexact H

/-! ## The end -/

/-- A cell past its only round closes. -/
theorem close (K : Dev nD × Cell → ℕ) (c : Dev nD) (k : Cell) :
    (iprop(known m ρ K ∗ atPos ER (kcell (c, k)) 1 ∅ 0) : sProp 𝕄) ⊢ |={Set.univ}=> semVal (kcell (c, k)) 0 := by
  iintro ⟨HK, Ha⟩
  ihave Hb := (known_cell m ρ K (c, k)) $$ HK
  icases Hb with ⟨#Hi, -⟩
  iapply (Rounds.cell_close ER (rd m ρ) (Set.mem_univ (K (c, k))) (fun h => h) (R := 0 + 1) (duties_later m ρ (kcell (c, k))))
  isplitr; · iexact Hi
  iexact Ha

/-- All is sent, received, stored and back: the cells close, and the buffers are whole. -/
theorem ending (K : Dev nD × Cell → ℕ) (c : Dev nD) :
    Sent m ρ K c 21 ⊢ |={Set.univ}=> iprop((∃ W, owes (c : Thread nD τ) 0 W)
      ∗ (bigSep Finset.univ fun μ : Msg => semVal (sndCell μ c) 0) ∗ (bigSep Finset.univ fun μ : Msg => semVal (rcvCell μ c) 0)
      ∗ bigSep Finset.univ (land m ρ c) ∗ (xloc c ↦{fullShare} xstg m ρ c) ∗ (wloc c ↦{fullShare} wstg m ρ c) ∗ oloc c ↦{fullShare} outAt m ρ c) := by
  unfold Sent St
  rw [show (order.take 21).reverse = order.reverse from rfl, show order.drop 21 = [] from rfl,
    ← bigSep_univ_eq_bigSepL order.reverse (by decide) (by decide), ← bigSep_univ_eq_bigSepL arrival.reverse (by decide) (by decide)]
  unfold returned received
  rw [bigSep_sep', bigSep_sep']
  iintro ⟨#HK, HO, -, -, ⟨HaS, Hl⟩, -, -, ⟨HaR, Hk⟩, Hx, Hw, Ho⟩
  imod ((bigSep_with_persistent (R := known m ρ K) fun (μ : Msg) _ => close m ρ K c (Cell.snd μ)).trans (BI.bigSep_fupd _ _)) $$ [HaS] with HzS
  · isplitr; · iexact HK
    iexact HaS
  imod ((bigSep_with_persistent (R := known m ρ K) fun (μ : Msg) _ => close m ρ K c (Cell.rcv μ)).trans (BI.bigSep_fupd _ _)) $$ [HaR] with HzR
  · isplitr; · iexact HK
    iexact HaR
  imodintro
  ihave Hj := (rejoin m ρ c) $$ [Hk Hl]
  · isplitl [Hk] <;> iassumption
  icases Hj with ⟨Hland, Hown⟩
  isplitl [HO]; · iexact HO
  isplitl [HzS]; · iexact HzS
  isplitl [HzR]; · iexact HzR
  isplitl [Hland]; · iexact Hland
  isplitl [Hx Hown]
  · iapply (x_split m ρ c).2
    isplitl [Hx] <;> iassumption
  isplitl [Hw]; · iexact Hw
  iapply (out_whole (outAt m ρ) c)
  iexact Ho

end Cert.KernelIdeal.Cube

end
-- ==== Proof.KernelIdeal.Whole.lean ====
/-
# The cube all-gather: the kernel from its start to its end

What a device starts from and ends with, the pipeline's data, and the kernel's triple.
-/
module

public import proofs.«01_k».proof.Proof.KernelIdeal.Ends

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable (m : (ℓ : Loc nD τ sig) → Buf (Elt F) ℓ) (ρ : Dev nD → PrngReg)

/-! ## What a device starts from -/

/-- The invariants of all the cells, and that each is at its first round. -/
def records (K : Dev nD × Cell → ℕ) : sProp 𝕄 :=
  bigSep Finset.univ fun ck : Dev nD × Cell => iprop(cellInv ER (rd m ρ) (K ck) (kcell ck) ∗ reached ER (kcell ck) 0)

instance records_persistent (K : Dev nD × Cell → ℕ) : BI.Persistent (records m ρ K) := by unfold records; infer_instance

/-- The duties a device pays: its neighbours' barrier cells', its messages' send cells' and their receivers' receive cells'. -/
def pays (c : Dev nD) : sProp 𝕄 :=
  iprop((bigSep Finset.univ fun a : Fin 3 => dutyTok ER (barCell (peer a c)) 0 a)
    ∗ (bigSep Finset.univ fun μ : Msg => dutyTok ER (sndCell μ c) 0 (0 : Fin 3))
    ∗ bigSep Finset.univ fun μ : Msg => dutyTok ER (rcvCell μ (dst μ c)) 0 (0 : Fin 3))

/-- Its positions at the first rounds of its own cells. -/
def places0 (c : Dev nD) : sProp 𝕄 := bigSep Finset.univ fun k : Cell => atPos ER (kcell (c, k)) 0 ∅ 0

/-- What it is credited: its neighbours' units and the messages that come. -/
def credits (c : Dev nD) : sProp 𝕄 :=
  iprop(cred (tallyAt (barCell c) () 3) ∗ bigSep Finset.univ fun μ : Msg => cred (tallyAt (rcvCell μ c) () (cr μ.1)))

def start (c : Dev nD) : sProp 𝕄 :=
  iprop((∃ K, records m ρ K ∗ places0 c ∗ pays c) ∗ credits c ∗ levAts L lv)

/-- Before the kernel, -/
def Φ₀ (c : Dev nD) : sProp 𝕄 := iprop(start m ρ c ∗ ∃ f : Buf (Elt F) (gloc c), gloc c ↦{fullShare} f)
/-- and after it: the gather buffer, and all the cells closed. -/
def Φ₁ (c : Dev nD) : sProp 𝕄 :=
  iprop((∃ f : Buf (Elt F) (gloc c), gloc c ↦{fullShare} f) ∗ bigSep Finset.univ fun k : Cell => semVal (kcell (c, k)) 0)

omit [FloatOps F] in
/-- All of a device's cells: the barrier cell, the send cells, the receive cells. -/
theorem cells_eq (Φ : Cell → sProp 𝕄) : bigSep Finset.univ Φ
    = iprop(Φ Cell.bar ∗ (bigSep Finset.univ fun μ : Msg => Φ (Cell.snd μ)) ∗ bigSep Finset.univ fun μ : Msg => Φ (Cell.rcv μ)) := by
  rw [bigSep_univ_sum, bigSep_univ_sum, bigSep_univ_eq_bigSepL [()] (by decide) (by decide), bigSepL_singleton]
  rfl

theorem along_univ : (Finset.univ : Finset Msg) = (along 0 ++ (along 1 ++ along 2)).toFinset := by decide
theorem along_nodup : (along 0 ++ (along 1 ++ along 2)).Nodup := by decide

/-! ## The kernel's triple -/

/-- What the kernel leaves. -/
def After (c : Dev nD) : sProp 𝕄 :=
  iprop(Φ₁ (F := F) c ∗ (∃ W, owes (c : Thread nD τ) 0 W) ∗ (xloc c ↦{fullShare} xstg m ρ c) ∗ (wloc c ↦{fullShare} wstg m ρ c)
    ∗ oloc c ↦{fullShare} outAt m ρ c)

/-- What a device keeps by while it signals. -/
def Aside (c : Dev nD) (R : sProp 𝕄) : sProp 𝕄 :=
  iprop((∃ f : Buf (Elt F) (gloc c), gloc c ↦[unplaced c]{fullShare} f)
    ∗ (bigSep Finset.univ fun μ : Msg => atPos ER (sndCell μ c) 0 ∅ 0) ∗ (bigSep Finset.univ fun μ : Msg => atPos ER (rcvCell μ c) 0 ∅ 0)
    ∗ (bigSep Finset.univ fun μ : Msg => dutyTok ER (sndCell μ c) 0 (0 : Fin 3))
    ∗ (bigSep Finset.univ fun μ : Msg => dutyTok ER (rcvCell μ (dst μ c)) 0 (0 : Fin 3))
    ∗ (bigSep Finset.univ fun μ : Msg => cred (tallyAt (rcvCell μ c) () (cr μ.1)))
    ∗ (xloc c ↦{fullShare} xstg m ρ c) ∗ (wloc c ↦{fullShare} wstg m ρ c) ∗ (∃ f : Buf (Elt F) (oloc c), oloc c ↦{fullShare} f) ∗ R)

/-- What it keeps by while it works. -/
def Apart (c : Dev nD) (R : sProp 𝕄) : sProp 𝕄 :=
  iprop((∃ f : Buf (Elt F) (gloc c), gloc c ↦[unplaced c]{fullShare} f) ∗ semVal (barCell c) 0 ∗ R)

omit [FloatOps F] in
/-- The gather buffer handed out by the signals. -/
theorem to_signal (c : Dev nD) :
    iprop((bigSep Finset.univ fun a : Fin 3 => dutyTok ER (barCell (peer a c)) 0 a) ∗ bigSep Finset.univ fun μ : Msg => raw (F := F) μ.1 (org μ c) c)
      ⊢ (bigSepL [0, 1, 2] (toSignal c) : sProp 𝕄) := by
  rw [bigSep_univ_eq_bigSepL [0, 1, 2] (by decide) (by decide), bigSep_univ_eq_bigSepL _ along_univ along_nodup, bigSepL_append, bigSepL_append]
  simp only [bigSepL_cons_cons, bigSepL_singleton]
  unfold toSignal
  show iprop((dutyTok ER (barCell (peer 0 c)) 0 0 ∗ dutyTok ER (barCell (peer 1 c)) 0 1 ∗ dutyTok ER (barCell (peer 2 c)) 0 2) ∗ _ ∗ _ ∗ _) ⊢ iprop((_ ∗ _) ∗ (_ ∗ _) ∗ (_ ∗ _))
  iintro ⟨⟨H0, H1, H2⟩, R0, R1, R2⟩
  isplitl [H0 R0]; · isplitl [H0] <;> iassumption
  isplitl [H1 R1]; · isplitl [H1] <;> iassumption
  isplitl [H2] <;> iassumption

theorem after_barrier (K : Dev nD × Cell → ℕ) (c : Dev nD) (R : sProp 𝕄) :
    iprop(known m ρ K ∗ (∃ W, owes (c : Thread nD τ) (owe c order) W) ∗ bigSepL (along 0 ++ (along 1 ++ along 2)) (slot c)
      ∗ semVal (barCell c) 0 ∗ Aside m ρ c R) ⊢ iprop(Apart c R ∗ At m ρ K c 0 0 0 (order.take 9)) := by
  have eS : bigSepL (order.drop 0) (toSend c) = (bigSep Finset.univ (toSend c) : sProp 𝕄) := (bigSep_univ_eq_bigSepL order order_univ order_nodup _).symm
  have eR : bigSepL (arrival.drop 0) (toRecv c) = (bigSep Finset.univ (toRecv c) : sProp 𝕄) := (bigSep_univ_eq_bigSepL arrival arrival_univ arrival_nodup _).symm
  unfold At St Aside Apart
  rw [eS, eR, ← bigSep_univ_eq_bigSepL _ along_univ along_nodup]
  unfold toSend toRecv outHeld
  rw [bigSep_sep', bigSep_sep', bigSep_sep', bigSep_sep']
  iintro ⟨HK, HO, Hslot, Hbar, Hrest, HaS, HaR, HtS, HtR, Hc, Hx, Hw, ⟨%fo, Ho⟩, HR⟩
  ihave Hx' := (x_split m ρ c).1 $$ Hx
  icases Hx' with ⟨Hx, Hl⟩
  isplitl [Hrest Hbar HR]
  · isplitl [Hrest]; · iexact Hrest
    isplitl [Hbar] <;> iassumption
  isplitl [HK]; · iexact HK
  isplitl [HO]; · iexact HO
  isplitl [HtS HtR Hslot HaS]
  · isplitl [HtS]; · iexact HtS
    isplitl [HtR]; · iexact HtR
    isplitl [Hslot] <;> iassumption
  isplitr; · rw [show (order.take 0).reverse = [] from rfl, bigSepL_nil]; iempintro
  isplitr; · rw [bigSepL_nil]; iempintro
  isplitl [Hl]; · iexact Hl
  isplitl [Hc HaR]; · isplitl [Hc] <;> iassumption
  isplitr; · rw [show (arrival.take 0).reverse = [] from rfl, bigSepL_nil]; iempintro
  isplitl [Hx]; · iexact Hx
  isplitl [Hw]; · iexact Hw
  iexists fo
  isplitr
  · ipureintro
    intro p hp
    exact absurd hp (by rw [show (stores.take 0).reverse = [] from rfl]; exact List.not_mem_nil)
  iexact Ho

theorem at_end (K : Dev nD × Cell → ℕ) (c : Dev nD) {Q : PUnit → sProp 𝕄} :
    Sent m ρ K c 21 ⊢ |={Set.univ}=> iprop(Apart c iprop(After m ρ c -∗ Q ⟨⟩) -∗ Q ⟨⟩) := by
  refine (ending m ρ K c).trans (BI.fupd_mono ?_)
  unfold Apart
  iintro ⟨HO, HzS, HzR, Hland, Hx, Hw, Ho⟩ ⟨⟨%f, Hrest⟩, Hbar, HR⟩
  iapply HR
  unfold After Φ₁
  rw [cells_eq]
  isplitl [Hland Hrest HzS HzR Hbar]
  · isplitl [Hland Hrest]
    · iapply (gather_join m ρ c f)
      isplitl [Hland] <;> iassumption
    isplitl [Hbar]; · iexact Hbar
    isplitl [HzS] <;> iassumption
  isplitl [HO]; · iexact HO
  isplitl [Hx]; · iexact Hx
  isplitl [Hw]; · iexact Hw
  iexact Ho

/-- The kernel on device `c`. -/
theorem kernel_run (c : Dev nD) {Q : PUnit → sProp 𝕄} :
    iprop(Φ₀ m ρ c ∗ (∃ W, owes (c : Thread nD τ) (O₀ c) W) ∗ (xloc c ↦{fullShare} xstg m ρ c) ∗ (wloc c ↦{fullShare} wstg m ρ c)
        ∗ (∃ f : Buf (Elt F) (oloc c), oloc c ↦{fullShare} f) ∗ (After m ρ c -∗ Q ⟨⟩))
      ⊢ run c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2) Q := by
  have h (K : Dev nD × Cell → ℕ) := body_run (Q := Q) (after_barrier m ρ K c iprop(After m ρ c -∗ Q ⟨⟩)) (at_end m ρ K c)
  unfold Φ₀ start places0 credits pays
  rw [cells_eq]
  iintro ⟨⟨⟨⟨%K, HK, ⟨Hab, HaS, HaR⟩, HtB, HtS, HtR⟩, ⟨Hcb, Hc⟩, Hlev⟩, ⟨%f, Hg⟩⟩, HO, Hx, Hw, Ho, HR⟩
  iapply (h K)
  unfold Bar Aside
  ihave Hg' := (gather_split c f) $$ Hg
  icases Hg' with ⟨Hraw, Hrest⟩
  isplitl [HK Hlev]
  · unfold known
    isplitl [HK]
    · unfold records; iexact HK
    iexact Hlev
  isplitl [HO]; · rw [← O₀_eq]; iexact HO
  isplitl [HtB Hraw]
  · iapply (to_signal c)
    isplitl [HtB] <;> iassumption
  isplitl [Hcb]; · iexact Hcb
  isplitl [Hab]; · iexact Hab
  isplitl [Hrest]; · iexists f; iexact Hrest
  isplitl [HaS]; · iexact HaS
  isplitl [HaR]; · iexact HaR
  isplitl [HtS]; · iexact HtS
  isplitl [HtR]; · iexact HtR
  isplitl [Hc]; · iexact Hc
  isplitl [Hx]; · iexact Hx
  isplitl [Hw]; · iexact Hw
  isplitl [Ho]; · iexact Ho
  iexact HR

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x : (cfg0.win (0 : Fin 3)).fetch t₀ = true := rfl
theorem fetch_w : (cfg0.win (1 : Fin 3)).fetch t₀ = true := rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

theorem after_post (c : Dev nD) : After m ρ c ⊢ bodyPost m ρ c := by
  unfold After bodyPost Dat.owesAt Pipeline.owesWithin
  rw [show (dats m ρ 0 c).owed t₀.succ = 0 from rfl]
  iintro ⟨HΦ, ⟨%W, HO⟩, Hx, Hw, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 8000 in
/-- The kernel meets its obligation on every core. -/
theorem body_obligation (c : Dev nD) : BodyObligation (dats (F := F) m ρ 0 c) (defs₀ (F := F)) 𝒱₀ () Set.univ := fun t => by
  rw [fin_N t, bigSep_W0, bigSep_W0]
  simp only [owns_whole_eq]
  show bodyPre m ρ c ⊢ run c
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  have h := kernel_run m ρ c (Q := fun _ => bodyPost m ρ c)
  have hx (d) : (dats m ρ 0 c).before (0 : Fin 3) t₀ d = xstg m ρ c := by unfold Dat.before; rw [if_pos fetch_x]; rfl
  have hw (d) : (dats m ρ 0 c).before (1 : Fin 3) t₀ d = wstg m ρ c := by unfold Dat.before; rw [if_pos fetch_w]; rfl
  unfold bodyPre Dat.owesAt Pipeline.owesWithin
  rw [show (dats m ρ 0 c).owed t₀.castSucc = O₀ c from rfl]
  iintro ⟨HΦ, ⟨%W, -, HO⟩, ⟨%d0, %g0, %hg0, Hx⟩, ⟨%d1, %g1, %hg1, Hw⟩, ⟨%d2, %g2, -, Ho⟩⟩
  rw [hx] at hg0
  rw [hw] at hg1
  subst hg0 hg1
  iapply h
  isplitl [HΦ]; · iexact HΦ
  isplitl [HO]; · iexists W; iexact HO
  isplitl [Hx]; · iexact Hx
  isplitl [Hw]; · iexact Hw
  isplitl [Ho]; · iexists g2; iexact Ho
  iintro H
  iapply (after_post m ρ c)
  iexact H

end Cert.KernelIdeal.Cube

end
-- ==== Proof.KernelIdeal.Launch.lean ====
/-
# The cube all-gather: the launch

The cells of all the devices are allocated together, each device is dealt the tokens of the duties it pays, and the
runs of the whole program follow from the kernel's triple.
-/
module

public import proofs.«01_k».proof.Proof.KernelIdeal.Whole
public import Idealize.ShloMosaic.Lib.Pipeline.CollectiveSegs

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable (m : (ℓ : Loc nD τ sig) → Buf (Elt F) ℓ) (ρ : Dev nD → PrngReg)

/-! ## The kernel's own semaphores -/

def osem (k : Msg ⊕ Msg) : SemLoc sig := csem (.inr k)

theorem ownSemFacts : Pipeline.OwnSemFacts cfg0.spec osem :=
  ⟨by decide, fun a b h => Sum.inr_injective (csem_injective h), by decide⟩

theorem share_eq (c : Dev nD) (w : Fin cfg0.W) : (dats m ρ 0 c).share w = fullShare := by unfold Dat.share; split <;> rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's cells are the kernel's own semaphores and the unscoped one. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Cell => semVal (kcell (c, k)) 0 : sProp 𝕄) := by
  rw [unscopedSems0_eq, cells_eq]
  unfold Pipeline.ownSems0
  rw [bigSep_univ_sum]
  exact sep_comm.antisymm sep_comm

/-! ## What is minted -/

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  subst h1 h2; rfl

def kcells : Finset (GSem nD τ sig) := Finset.univ.map ⟨kcell, kcell_injective⟩

/-- The duties of a device's own cells: its barrier cell's three, its send cells', its receive cells'. -/
abbrev Duty : Type := Fin 3 ⊕ (Msg ⊕ Msg)

def tokOf (cd : Dev nD × Duty) : GSem nD τ sig × ℕ × Fin 3 := match cd.2 with
  | .inl a => (barCell cd.1, 0, a)
  | .inr k => (kcell (cd.1, .inr k), 0, 0)

theorem tokOf_injective : Function.Injective tokOf := by
  rintro ⟨c, a | k⟩ ⟨c', a' | k'⟩ h
  · have h1 : c = c' := congrArg (fun x : GSem nD τ sig × ℕ × Fin 3 => x.1.1.1) h
    have h2 : a = a' := congrArg (fun x : GSem nD τ sig × ℕ × Fin 3 => x.2.2) h
    subst h1 h2; rfl
  · exact absurd (csem_injective (congrArg (fun x : GSem nD τ sig × ℕ × Fin 3 => x.1.2) h) : Cell.bar = Sum.inr k') Sum.inl_ne_inr
  · exact absurd (csem_injective (congrArg (fun x : GSem nD τ sig × ℕ × Fin 3 => x.1.2) h) : Sum.inr k = Cell.bar) Sum.inr_ne_inl
  · have h1 : c = c' := congrArg (fun x : GSem nD τ sig × ℕ × Fin 3 => x.1.1.1) h
    have h2 : (Sum.inr k : Cell) = Sum.inr k' := csem_injective (congrArg (fun x : GSem nD τ sig × ℕ × Fin 3 => x.1.2) h)
    obtain rfl := Sum.inr_injective h2
    subst h1; rfl

def ktoks : Finset (GSem nD τ sig × ℕ × Fin 3) := Finset.univ.map ⟨tokOf, tokOf_injective⟩

def u₀ : UU :=
  (initOf (Pipeline.cells cfgs cellOf_inj) (Pipeline.launchToks cfgs cellOf_inj), initOf kcells ktoks)

/-- The duty tokens of device `c`'s own cells. -/
def toks (c : Dev nD) : sProp 𝕄 :=
  iprop((bigSep Finset.univ fun a : Fin 3 => dutyTok ER (barCell c) 0 a)
    ∗ (bigSep Finset.univ fun μ : Msg => dutyTok ER (sndCell μ c) 0 (0 : Fin 3))
    ∗ bigSep Finset.univ fun μ : Msg => dutyTok ER (rcvCell μ c) 0 (0 : Fin 3))

/-- What each device is dealt at first: -/
def G (c : Dev nD) : sProp 𝕄 :=
  iprop((bigSep Finset.univ fun k : Cell => roundState ER (rd m ρ) (kcell (c, k)) 0)
    ∗ (bigSep Finset.univ fun k : Cell => reached ER (kcell (c, k)) 0) ∗ places0 c ∗ toks c)
/-- and once the cells are allocated. -/
def G' (c : Dev nD) : sProp 𝕄 := iprop(∃ K, records m ρ K ∗ places0 c ∗ pays c)

omit [FloatOps F] in
theorem fund_cells : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun k : Cell => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_sum, bigSep_univ_sum]; rfl
  iintro HX
  imod (Rounds.fund ER (rd m ρ) kcells ktoks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places0; simp only [bigSep_sep']
  isplitl [Hst']; · iexact Hst'
  isplitl [Hr']; · iexact Hr'
  isplitl [Hat']; · iexact Hat'
  iexact Htok'

/-! ## The cells allocated, the tokens dealt -/

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (rd m ρ) κ (kcell (c, k)) ∗ reached ER (kcell (c, k)) 0))
          ∗ places0 c ∗ toks c) := by
  have hinv : iprop((bigSep Finset.univ fun k : Cell => semVal (kcell (c, k)) 0) ∗ bigSep Finset.univ fun k : Cell => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  have hboth : iprop((bigSep Finset.univ fun k : Cell => iprop(∃ κ : ℕ, cellInv ER (rd m ρ) κ (kcell (c, k)))) ∗ bigSep Finset.univ fun k : Cell => reached ER (kcell (c, k)) 0)
      ⊢ (bigSep Finset.univ fun k : Cell => iprop(∃ κ : ℕ, cellInv ER (rd m ρ) κ (kcell (c, k)) ∗ reached ER (kcell (c, k)) 0) : sProp 𝕄) := by
    rw [← bigSep_sep']
    refine bigSep_mono fun k _ => ?_
    show iprop((∃ κ : ℕ, cellInv ER (rd m ρ) κ (kcell (c, k))) ∗ reached ER (kcell (c, k)) 0) ⊢ iprop(∃ κ : ℕ, cellInv ER (rd m ρ) κ (kcell (c, k)) ∗ reached ER (kcell (c, k)) 0)
    iintro ⟨⟨%κ, HI⟩, HR⟩
    iexists κ
    isplitl [HI] <;> iassumption
  unfold G
  iintro ⟨Hos, Hus, Hst, Hr, Hat, Htok⟩
  ihave Hv := (Entails.of_eq (sems0_eq (F := F) c)) $$ [Hos Hus]
  · isplitl [Hos] <;> iassumption
  imod (hinv) $$ [Hv Hst] with Hinv
  · isplitl [Hv] <;> iassumption
  imodintro
  isplitl [Hinv Hr]
  · iapply hboth
    isplitl [Hinv] <;> iassumption
  isplitl [Hat] <;> iassumption

/-- Each neighbour along an axis, each message's receiver: both undo themselves. -/
def along_equiv : Dev nD × Fin 3 ≃ Dev nD × Fin 3 :=
  ⟨fun x => (peer x.2 x.1, x.2), fun x => (peer x.2 x.1, x.2), fun x => Prod.ext (peer_peer _ _) rfl, fun x => Prod.ext (peer_peer _ _) rfl⟩
def dst_equiv : Dev nD × Msg ≃ Dev nD × Msg :=
  ⟨fun x => (dst x.2 x.1, x.2), fun x => (dst x.2 x.1, x.2), fun x => Prod.ext (dst_dst _ _) rfl, fun x => Prod.ext (dst_dst _ _) rfl⟩

omit [FloatOps F] in
/-- A barrier cell's tokens go to the neighbours, a receive cell's to the sender. -/
theorem toks_around : (bigSep Finset.univ fun c : Dev nD => (toks c : sProp 𝕄)) ⊢ bigSep Finset.univ fun c : Dev nD => pays c := by
  have hb : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (peer a c)) 0 a := by
    rw [← bigSep_univ_prod (fun x : Dev nD × Fin 3 => (dutyTok ER (barCell x.1) 0 x.2 : sProp 𝕄)), bigSep_univ_equiv along_equiv, bigSep_univ_prod]
    rfl
  have hr : (bigSep Finset.univ fun c : Dev nD => bigSep Finset.univ fun μ : Msg => (dutyTok ER (rcvCell μ c) 0 (0 : Fin 3) : sProp 𝕄))
      = bigSep Finset.univ fun c : Dev nD => bigSep Finset.univ fun μ : Msg => dutyTok ER (rcvCell μ (dst μ c)) 0 (0 : Fin 3) := by
    rw [← bigSep_univ_prod (fun x : Dev nD × Msg => (dutyTok ER (rcvCell x.2 x.1) 0 (0 : Fin 3) : sProp 𝕄)), bigSep_univ_equiv dst_equiv, bigSep_univ_prod]
    rfl
  unfold toks pays
  rw [bigSep_sep', bigSep_sep', bigSep_sep', bigSep_sep', hb, hr]

omit [FloatOps F] in
/-- What all have alike goes to each. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : Cell => iprop(∃ κ : ℕ, cellInv ER (rd m ρ) κ (kcell (c, k)) ∗ reached ER (kcell (c, k)) 0))
          ∗ places0 c ∗ toks c) : sProp 𝕄)
      ⊢ bigSep Finset.univ (G' m ρ) := by
  have hI (K : Dev nD × Cell → ℕ) (c : Dev nD) : iprop(records m ρ K ∗ (places0 c ∗ pays c)) ⊢ G' m ρ c := by
    unfold G'
    iintro ⟨#HI, HL⟩
    iexists K
    isplitr <;> iassumption
  rw [bigSep_sep', bigSep_sep', ← bigSep_univ_prod (fun ck : Dev nD × Cell => iprop(∃ κ : ℕ, cellInv ER (rd m ρ) κ (kcell ck) ∗ reached ER (kcell ck) 0))]
  iintro ⟨HI, Hat, Htok⟩
  ihave HK := (BI.bigSep_exists_pi Finset.univ (fun (ck : Dev nD × Cell) (κ : ℕ) => (iprop(cellInv ER (rd m ρ) κ (kcell ck) ∗ reached ER (kcell ck) 0) : sProp 𝕄))) $$ HI
  icases HK with ⟨%K, HI⟩
  ihave Htk := (toks_around (F := F)) $$ Htok
  iapply (deal (R := records m ρ K) fun c _ => hI K c)
  isplitl [HI]
  · unfold records; iexact HI
  rw [bigSep_sep']
  isplitl [Hat] <;> iassumption

omit [FloatOps F] in
/-- The semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem kcell_eq_iff {a b : Dev nD × Cell} : Iff (kcell a = kcell b) (a = b) := ⟨fun h => kcell_injective h, fun h => h ▸ rfl⟩

theorem owe_bar (d c : Dev nD) (T : List Msg) : owe d T (barCell c) () = 0 := by
  induction T with
  | nil => rfl
  | cons ν T ih =>
    unfold owe
    rw [Pi.add_apply, Finsupp.add_apply, ih, tallyAt_ne_cell (fun h => Sum.inl_ne_inr (congrArg Prod.snd (kcell_injective h)))]
    rfl

theorem owe_rcv (d c : Dev nD) (μ : Msg) (T : List Msg) (hT : T.Nodup) :
    owe d T (rcvCell μ c) () = if μ ∈ T ∧ d = dst μ c then cr μ.1 else 0 := by
  induction T with
  | nil => rw [if_neg (fun h => absurd h.1 List.not_mem_nil)]; rfl
  | cons ν T ih =>
    obtain ⟨hν, hT⟩ := List.nodup_cons.mp hT
    unfold owe
    rw [Pi.add_apply, Finsupp.add_apply, ih hT, tallyAt_apply]
    have e : Iff (rcvCell μ c = rcvCell ν (dst ν d) ∧ () = ()) (μ = ν ∧ d = dst μ c) := by
      refine ⟨fun h => ?_, fun h => ?_⟩
      · have h' := kcell_injective h.1
        have h1 : μ = ν := Sum.inr_injective (Sum.inr_injective (congrArg Prod.snd h'))
        have h2 : c = dst ν d := congrArg Prod.fst h'
        subst h1; exact ⟨rfl, by rw [h2, dst_dst]⟩
      · obtain ⟨rfl, rfl⟩ := h; exact ⟨by rw [dst_dst], rfl⟩
    by_cases hd : d = dst μ c
    · by_cases h1 : μ = ν
      · rw [if_neg (fun h => hν (h1 ▸ h.1)), if_pos (e.mpr ⟨h1, hd⟩), if_pos ⟨by rw [h1]; exact List.mem_cons_self, hd⟩, Nat.zero_add, h1]
      · rw [if_neg (fun h => h1 (e.mp h).1), Nat.add_zero]
        exact if_congr (by rw [List.mem_cons]; exact ⟨fun h => ⟨.inr h.1, h.2⟩, fun h => ⟨h.1.resolve_left h1, h.2⟩⟩) rfl rfl
    · rw [if_neg (fun h => hd h.2), if_neg (fun h => hd (e.mp h).2), if_neg (fun h => hd h.2)]

theorem unit_bar (d c : Dev nD) (a : Fin 3) : tallyAt (barCell (peer a d)) () 1 (barCell c) () = if d = peer a c then 1 else 0 := by
  rw [tallyAt_apply]
  refine if_congr ⟨fun h => ?_, fun h => ⟨by rw [h, peer_peer], rfl⟩⟩ rfl rfl
  rw [show c = peer a d from congrArg Prod.fst (kcell_injective h.1), peer_peer]

theorem owed_bar (d c : Dev nD) : O₀ d (barCell c) ()
    = ((if d = peer 2 c then 1 else 0) + if d = peer 1 c then 1 else 0) + if d = peer 0 c then 1 else 0 := by
  unfold O₀
  rw [Pi.add_apply, Finsupp.add_apply, Pi.add_apply, Finsupp.add_apply, Pi.add_apply, Finsupp.add_apply, owe_bar, unit_bar, unit_bar, unit_bar, Nat.zero_add]

theorem owed_rcv (d c : Dev nD) (μ : Msg) : O₀ d (rcvCell μ c) () = if d = dst μ c then cr μ.1 else 0 := by
  have h0 (a : Fin 3) : tallyAt (barCell (peer a d)) () 1 (rcvCell μ c) () = 0 := by
    rw [tallyAt_ne_cell (fun h => Sum.inr_ne_inl (congrArg Prod.snd (kcell_injective h)))]; rfl
  unfold O₀
  rw [Pi.add_apply, Finsupp.add_apply, Pi.add_apply, Finsupp.add_apply, Pi.add_apply, Finsupp.add_apply, owe_rcv _ _ _ _ order_nodup, h0, h0, h0]
  exact if_congr ⟨fun h => h.2, fun h => ⟨by rw [← List.mem_toFinset, ← order_univ]; exact Finset.mem_univ _, h⟩⟩ rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem launch_rcv (c : Dev nD) (μ : Msg) :
    tallyOn (rcvCell μ c) (launchCredit (Pipeline.owing O₀) 0 (rcvCell μ c)) = (tallyAt (rcvCell μ c) () (cr μ.1) : CellTallies nD τ sig Unit) := by
  unfold tallyAt; refine congrArg _ (Finsupp.ext fun u => ?_); cases u
  rw [Pipeline.launchCredit_owing, Finsupp.single_eq_same, Finset.sum_congr rfl fun d _ => owed_rcv d c μ,
    Finset.sum_ite_eq' Finset.univ (dst μ c) fun _ => cr μ.1, if_pos (Finset.mem_univ _)]

/-- The barrier's and the receive cells' semaphores. -/
def credited (k : Unit ⊕ Msg) : SemLoc sig := csem (k.elim Sum.inl fun μ => .inr (.inr μ))
theorem credited_injective : Function.Injective credited := fun a b h => by
  have h' := csem_injective h
  rcases a with a | a <;> rcases b with b | b
  · rfl
  · exact absurd h' Sum.inl_ne_inr
  · exact absurd h' Sum.inr_ne_inl
  · exact congrArg Sum.inr (Sum.inr_injective (Sum.inr_injective h'))

omit [FloatOps F] in
theorem creds (c : Dev nD) : (Pipeline.launchCred O₀ c : sProp 𝕄) ⊢ credits c := by
  unfold Pipeline.launchCred
  refine (bigSep_subset (Finset.subset_univ (Finset.univ.map ⟨credited, credited_injective⟩))).trans ?_
  rw [bigSep_map, bigSep_univ_sum, bigSep_univ_eq_bigSepL [()] (by decide) (by decide), bigSepL_singleton]
  unfold credits
  refine BI.sep_mono (Entails.of_eq (congrArg cred (launch_bar c))) (bigSep_mono fun μ _ => Entails.of_eq (congrArg cred (launch_rcv c μ)))

/-! ## The conditions of the launch -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← sems0_eq]
  iintro ⟨Hr, Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every weakly fair execution of the eight devices terminates,
    with the arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold after the run what they held before. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Cube

end
-- ==== Proof.KernelIdeal.Value.lean ====
/-
# The value

At the extended reals every part of a device's block of the result is the same function of one row of `x` and one column of
`w`: their product `y`, and the activation of `y`. The single-device program computes that function of the whole arrays, so
a device's block is the block of the single-device program's result.
-/
module

public import proofs.«01_k».proof.Proof.KernelIdeal.Launch
public import proofs.«01_k».proof.Proof.Gen.ReferenceIdeal.Run
public import Idealize.ShloMosaic.Lib.Pointwise.Contract
public import Idealize.ShloMosaic.Lib.Pointwise.Reshape
public import Idealize.ShloMosaic.PureOps.Ideal.Laws
public import Idealize.ShloMosaic.Lib.Layout

@[expose] public section

noncomputable section

namespace Cert.KernelIdeal.Cube

open Cert.KernelIdeal Cert.KernelIdeal.Gen

open Idealize.ShloMosaic
open Idealize.ShloMosaic.TcCoe
open Idealize.SL.Sem
open Idealize.ShloMosaic.Pipeline (Dat Cfg Window)
open scoped BigOperators

/-! ## The staged blocks and the result are the arrays -/

section Arrays

variable {F : FTy → Type} [FloatOps F]
variable (m : (ℓ : Loc nD τ sig) → Buf (Elt F) ℓ) (ρ : Dev nD → PrngReg)

/-- The kernel has no grid: each window's one block is its whole array. -/
theorem read_x (f : main_arg0.ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from
      funext fun a => Nat.zero_mul _) (fun a => by fin_cases a <;> decide) f
theorem read_w (f : main_arg1.ty.Contents (Elt F)) : (win0_1.blk (0 : Fin 1)).view.read (Elt F) f = f :=
  Memref.read_access_unit_zero (Elt F) main_arg1
    (show (fun a => (win0_1.index (0 : Fin 1)) a * main_arg1.ty.shape.size a) = fun _ => 0 from
      funext fun a => Nat.zero_mul _) (fun a => by fin_cases a <;> decide) f
theorem read_o (f : main_v1.ty.Contents (Elt F)) : (win0_2.blk (0 : Fin 1)).view.read (Elt F) f = f :=
  Memref.read_access_unit_zero (Elt F) main_v1
    (show (fun a => (win0_2.index (0 : Fin 1)) a * main_v1.ty.shape.size a) = fun _ => 0 from
      funext fun a => Nat.zero_mul _) (fun a => by fin_cases a <;> decide) f

theorem xstg_eq (c : Dev nD) : xstg m ρ c = m ((c : Thread nD τ).loc main_arg0) := read_x _
theorem wstg_eq (c : Dev nD) : wstg m ρ c = m ((c : Thread nD τ).loc main_arg1) := read_w _

/-- The result array ends holding the block the body left in its staging buffer. -/
theorem finalA_o (c : Dev nD) : finalA m ρ c (2 : Fin 3) = outAt m ρ c := by
  have hw : ((cfg0.win 2).blk (0 : Fin 1)).view.read (Elt F) ((dats m ρ 0 c).arrAt (2 : Fin 3) cfg0.N)
      = (dats m ρ 0 c).flushed (2 : Fin 3) (0 : Fin 1) := by
    rw [show cfg0.N = (0 : Fin 1).val + 1 from rfl]
    refine (congrArg _ (((dats m ρ 0 c).arrAt_succ (2 : Fin 3) (0 : Fin 1)).trans (if_pos rfl))).trans ?_
    exact View.read_write_univ _ _
  exact ((read_o _).symm.trans hw).trans (funext fun _ => rfl)

end Arrays

/-! ## The activation of a product -/

/-- The activation, as the program computes it. -/
def act (y : EReal) : EReal :=
  (Ideal.ofBits .f32 0x3F000000#32 * y) * (Ideal.ofBits .f32 0x3F800000#32
    + Ideal.tanh (Ideal.ofBits .f32 0x3F4C422A#32 * (y + ((Ideal.ofBits .f32 0x3D372713#32 * y) * y) * y)))

/-- Row `l` times column `r`. -/
def dot (l r : Fin 2048 → EReal) : EReal := ∑ k : Fin 2048, l k * r k

/-- A product of matrices, entry by entry: the sum over the contracted coordinate. -/
theorem plain_sum {M N : ℕ} (l : (⟨2, ![M, 2048]⟩ : Shape).Idx → EReal) (r : (⟨2, ![2048, N]⟩ : Shape).Idx → EReal)
    (j : (⟨2, ![M, N]⟩ : Shape).Idx) :
    ∑ k : (DotDims.plain M 2048 N).contr.Idx, l ((DotDims.plain M 2048 N).lhsIdx j k) * r ((DotDims.plain M 2048 N).rhsIdx j k)
      = dot (fun k => l (Shape.pair (d := ![M, 2048]) (j 0) k)) (fun k => r (Shape.pair (d := ![2048, N]) k (j 1))) := by
  rw [DotDims.sum_contr₁ (DotDims.plain M 2048 N) (a := (1 : Fin 2)) rfl (K := 2048) rfl]
  refine Finset.sum_congr rfl fun k _ => congrArg₂ (· * ·) (congrArg l ?_) (congrArg r ?_)
  · funext a; apply Fin.ext; fin_cases a <;> rfl
  · funext a; apply Fin.ext; fin_cases a <;> rfl

section Parts

variable (m : (ℓ : Loc nD τ sig) → Buf (Elt Ideal) ℓ) (ρ : Dev nD → PrngReg)

/-- The entry of device `c`'s block of the result at row `r`, column `q`. -/
def entry (c : Dev nD) (r : ℕ) (q : Fin 256) : EReal :=
  act (dot (xrow m ρ r) (fun k => wstg m ρ c (Shape.pair (d := ![2048, 256]) k q)))

theorem pay1_eq (v : Vec Ideal S2048x256 .f32) : k0_pay1 (F := Ideal) v = v := shapeCast_id v _

theorem part96_apply (c : Dev nD) (r : ℕ) (x : S96x256.Idx) : part96 m ρ c r x = entry m ρ c (r + (x 0).val) (x 1) := by
  have hd : matmul (F := Ideal) (φ₁ := .f32) (φ₂ := .f32) dot_S96x2048_S2048x256_S96x256_1_0_0_1_n_n none (slab m ρ 96 r) (wstg m ρ c) (constant S96x256 .f32 0x00000000#32) x
      = dot (xrow m ρ (r + (x 0).val)) (fun k => wstg m ρ c (Shape.pair (d := ![2048, 256]) k (x 1))) :=
    (Ideal.matmul_constant_zero_apply (φ₁ := .f32) (φ₂ := .f32) _ _ _ _ _).trans (plain_sum (M := 96) (N := 256) (slab m ρ 96 r) (wstg m ρ c) x)
  unfold part96 entry
  rw [← hd, pay1_eq]
  rfl

theorem part80_apply (c : Dev nD) (r : ℕ) (x : S80x256.Idx) : part80 m ρ c r x = entry m ρ c (r + (x 0).val) (x 1) := by
  have hd : matmul (F := Ideal) (φ₁ := .f32) (φ₂ := .f32) dot_S80x2048_S2048x256_S80x256_1_0_0_1_n_n none (slab m ρ 80 r) (wstg m ρ c) (constant S80x256 .f32 0x00000000#32) x
      = dot (xrow m ρ (r + (x 0).val)) (fun k => wstg m ρ c (Shape.pair (d := ![2048, 256]) k (x 1))) :=
    (Ideal.matmul_constant_zero_apply (φ₁ := .f32) (φ₂ := .f32) _ _ _ _ _).trans (plain_sum (M := 80) (N := 256) (slab m ρ 80 r) (wstg m ρ c) x)
  unfold part80 entry
  rw [← hd, pay1_eq]
  rfl

theorem ownPart_apply (c : Dev nD) (x : S256x256.Idx) : ownPart m ρ c x = entry m ρ c (256 * c.val + (x 0).val) (x 1) := by
  have hx : (x 0).val < 256 := (x 0).isLt
  have hc : c.val < 8 := c.isLt
  have hd : matmul (F := Ideal) (φ₁ := .f32) (φ₂ := .f32) dot_S256x2048_S2048x256_S256x256_1_0_0_1_n_n none (xstg m ρ c) (wstg m ρ c) (constant S256x256 .f32 0x00000000#32) x
      = dot (fun k => xstg m ρ c (Shape.pair (d := ![256, 2048]) (x 0) k)) (fun k => wstg m ρ c (Shape.pair (d := ![2048, 256]) k (x 1))) :=
    (Ideal.matmul_constant_zero_apply (φ₁ := .f32) (φ₂ := .f32) _ _ _ _ _).trans (plain_sum (M := 256) (N := 256) (xstg m ρ c) (wstg m ρ c) x)
  have hrow : xrow m ρ (256 * c.val + (x 0).val) = fun k => xstg m ρ c (Shape.pair (d := ![256, 2048]) (x 0) k) := by
    funext k
    have hb : (⟨(256 * c.val + (x 0).val) / 256 % 8, Nat.mod_lt _ (by decide)⟩ : Fin 8) = c := Fin.ext (by show _ / 256 % 8 = _; omega)
    have ht : (⟨(256 * c.val + (x 0).val) % 256, Nat.mod_lt _ (by decide)⟩ : Fin 256) = x 0 := Fin.ext (by show _ % 256 = _; omega)
    unfold xrow
    rw [hb, ht]
  have hp : k0_pay2 (F := Ideal) (wstg m ρ c) (xstg m ρ c)
      = matmul (F := Ideal) (φ₁ := .f32) (φ₂ := .f32) dot_S256x2048_S2048x256_S256x256_1_0_0_1_n_n none (xstg m ρ c) (wstg m ρ c) (constant S256x256 .f32 0x00000000#32) :=
    congrArg (fun v => matmul (F := Ideal) (φ₁ := .f32) (φ₂ := .f32) dot_S256x2048_S2048x256_S256x256_1_0_0_1_n_n none v (wstg m ρ c) (constant S256x256 .f32 0x00000000#32))
      (shapeCast_id (xstg m ρ c) _)
  unfold ownPart entry
  rw [hrow, pay1_eq]
  refine Eq.trans ?_ (congrArg act hd)
  rw [← hp]
  rfl

/-- Every entry of a device's block of the result is the activation of the product of its row and its column. -/
theorem outAt_apply (c : Dev nD) (i : S2048x256.Idx) : (show S2048x256.Idx → EReal from outAt m ρ c) i = entry m ρ c (i 0).val (i 1) := by
  have hi : (i 0).val < 2048 := (i 0).isLt
  have hc : c.val < 8 := c.isLt
  show outRow m ρ c ((i 0).val / 256) ((i 0).val % 256) (i 1) = _
  unfold outRow
  split_ifs with hb h96 h176
  · refine (ownPart_apply m ρ c _).trans (congrArg (fun r => entry m ρ c r (i 1)) ?_)
    show 256 * c.val + (i 0).val % 256 % 256 = _
    omega
  · refine (part96_apply m ρ c _ _).trans (congrArg (fun r => entry m ρ c r (i 1)) ?_)
    show 256 * ((i 0).val / 256) + 0 + (i 0).val % 256 % 96 = _
    omega
  · refine (part80_apply m ρ c _ _).trans (congrArg (fun r => entry m ρ c r (i 1)) ?_)
    show 256 * ((i 0).val / 256) + 96 + ((i 0).val % 256 - 96) % 80 = _
    omega
  · refine (part80_apply m ρ c _ _).trans (congrArg (fun r => entry m ρ c r (i 1)) ?_)
    show 256 * ((i 0).val / 256) + 176 + ((i 0).val % 256 - 176) % 80 = _
    omega

end Parts

/-! ## The single-device program -/

/-- What the single-device program computes of `X` and `W`. -/
def whole (X W : S2048x2048.Idx → EReal) : S2048x2048.Idx → EReal := fun j =>
  act (dot (fun k => X (Shape.pair (d := ![2048, 2048]) (j 0) k)) (fun k => W (Shape.pair (d := ![2048, 2048]) k (j 1))))

/-- Entry by entry, the reference's operations are the activation of a row times a column: its cube is multiplied out in
    another order. -/
theorem reference_value (X W : FVec Ideal S2048x2048 .f32) :
    mulf (F := Ideal) (mulf (broadcastInDim Cert.ReferenceIdeal.S2048x2048 ![] Cert.ReferenceIdeal.Gen.bcast_S_S2048x2048 (constant Cert.ReferenceIdeal.S_ .f32 0x3F000000#32))
        (Host.dotGeneral Cert.ReferenceIdeal.dot_S2048x2048_S2048x2048_S2048x2048_1_0_0_1_n_n none X W))
      (addf (broadcastInDim Cert.ReferenceIdeal.S2048x2048 ![] Cert.ReferenceIdeal.Gen.bcast_S_S2048x2048 (constant Cert.ReferenceIdeal.S_ .f32 0x3F800000#32))
        (Host.tanh (mulf (broadcastInDim Cert.ReferenceIdeal.S2048x2048 ![] Cert.ReferenceIdeal.Gen.bcast_S_S2048x2048 (constant Cert.ReferenceIdeal.S_ .f32 0x3F4C422A#32))
          (addf (Host.dotGeneral Cert.ReferenceIdeal.dot_S2048x2048_S2048x2048_S2048x2048_1_0_0_1_n_n none X W)
            (mulf (broadcastInDim Cert.ReferenceIdeal.S2048x2048 ![] Cert.ReferenceIdeal.Gen.bcast_S_S2048x2048 (constant Cert.ReferenceIdeal.S_ .f32 0x3D372713#32))
              (mulf (mulf (Host.dotGeneral Cert.ReferenceIdeal.dot_S2048x2048_S2048x2048_S2048x2048_1_0_0_1_n_n none X W)
                  (Host.dotGeneral Cert.ReferenceIdeal.dot_S2048x2048_S2048x2048_S2048x2048_1_0_0_1_n_n none X W))
                (Host.dotGeneral Cert.ReferenceIdeal.dot_S2048x2048_S2048x2048_S2048x2048_1_0_0_1_n_n none X W)))))))
      = whole X W := by
  funext j
  have hd : Host.dotGeneral (F := Ideal) Cert.ReferenceIdeal.dot_S2048x2048_S2048x2048_S2048x2048_1_0_0_1_n_n none X W j
      = dot (fun k => X (Shape.pair (d := ![2048, 2048]) (j 0) k)) (fun k => W (Shape.pair (d := ![2048, 2048]) k (j 1))) :=
    (Ideal.dotGeneral_apply _ _ _ X W j).trans (plain_sum (M := 2048) (N := 2048) X W j)
  have ha : ∀ y : EReal, act y = (Ideal.ofBits .f32 0x3F000000#32 * y) * (Ideal.ofBits .f32 0x3F800000#32
      + Ideal.tanh (Ideal.ofBits .f32 0x3F4C422A#32 * (y + Ideal.ofBits .f32 0x3D372713#32 * ((y * y) * y)))) := fun y => by
    unfold act; rw [mul_assoc (_ * y) y y, mul_assoc _ y (y * y), mul_assoc y y y]
  unfold whole
  rw [ha, ← hd]
  rfl

/-- The reference program's run, its result in that form. -/
theorem run_reference (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      fun r => ∀ c : Dev Cert.ReferenceIdeal.nD,
        r.2.mem ((c.tc : Thread Cert.ReferenceIdeal.nD Cert.ReferenceIdeal.τ).loc Cert.ReferenceIdeal.main_v13)
            = whole (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1) := by
  exact (θ_run _ _ _).mono (fun r h c => ⟨(h c).1.trans (reference_value _ _), (h c).2⟩) (Cert.ReferenceIdeal.Value.run (F := Ideal) m' g')

/-! ## A device's block of the result is the block of the single-device program's result -/

theorem outAt_block (m : (ℓ : Loc nD τ sig) → Buf (Elt Ideal) ℓ) (ρ : Dev nD → PrngReg) (X W : S2048x2048.Idx → EReal)
    (hX : ∀ c : Dev nD, m ((c.tc : Thread nD τ).loc main_arg0) = Layout.block ⟨2, ![256, 2048]⟩ ⟨2, ![2048, 2048]⟩ 0 8 c X)
    (hW : ∀ c : Dev nD, m ((c.tc : Thread nD τ).loc main_arg1) = Layout.block ⟨2, ![2048, 256]⟩ ⟨2, ![2048, 2048]⟩ 1 8 c W) (c : Dev nD) :
    outAt m ρ c = Layout.block ⟨2, ![2048, 256]⟩ ⟨2, ![2048, 2048]⟩ 1 8 c (whole X W) := by
  funext i
  refine (outAt_apply m ρ c i).trans ?_
  have hi : ((show S2048x256.Idx from i) 0).val < 2048 := ((show S2048x256.Idx from i) 0).isLt
  unfold entry
  rw [Layout.block_apply]
  unfold whole
  refine congrArg act (congrArg₂ dot (funext fun k => ?_) (funext fun k => ?_))
  · unfold xrow
    rw [xstg_eq]
    refine (congrFun (hX _) _).trans ?_
    rw [Layout.block_apply]
    refine congrArg X (funext fun a => Fin.ext ?_)
    fin_cases a
    · show ((show S2048x256.Idx from i) 0).val / 256 % 8 * 256 + ((show S2048x256.Idx from i) 0).val % 256 = ((show S2048x256.Idx from i) 0).val
      omega
    · rfl
  · rw [wstg_eq]
    refine (congrFun (hW _) _).trans ?_
    rw [Layout.block_apply]
    refine congrArg W (funext fun a => Fin.ext ?_)
    fin_cases a <;> rfl

end Cert.KernelIdeal.Cube

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The device program as printed: it runs, the arguments and the counters end as they began. -/
theorem frame_kernel : Cert.quiescent_Kernel (hKernel := Cert.Kernel.Gen.facts) := fun m g _ =>
  (θ_run _ _ _).mono (fun r h => ⟨fun c => ⟨(h.1 c (0 : Fin 3)).trans (Cert.Kernel.Cube.finalA_x m g c),
    (h.1 c (1 : Fin 3)).trans (Cert.Kernel.Cube.finalA_w m g c)⟩, h.2⟩) (Cert.Kernel.Cube.run_main (F := Bits) m g)

/-- The same of its reading at the extended reals, -/
theorem frame_ideal : Cert.quiescent_KernelIdeal (hKernelIdeal := Cert.KernelIdeal.Gen.facts) := fun m g _ =>
  (θ_run _ _ _).mono (fun r h => ⟨fun c => ⟨(h.1 c (0 : Fin 3)).trans (Cert.KernelIdeal.Cube.finalA_x m g c),
    (h.1 c (1 : Fin 3)).trans (Cert.KernelIdeal.Cube.finalA_w m g c)⟩, h.2⟩) (Cert.KernelIdeal.Cube.run_main (F := Ideal) m g)

/-- and of the single-device program, which has no semaphores. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) _⟩) (Cert.ReferenceIdeal.Value.run (F := Ideal) m g)

/-- Each device's result is its block of the single-device program's. -/
theorem value : Cert.algebraic_KernelIdeal_ReferenceIdeal (hKernelIdeal := Cert.KernelIdeal.Gen.facts)
    (hReferenceIdeal := Cert.ReferenceIdeal.Gen.facts) := fun m g m' g' _ hm =>
  ⟨_, (θ_run _ _ _).mono (fun r h c => ⟨((h.1 c (2 : Fin 3)).trans (Cert.KernelIdeal.Cube.finalA_o m g c)).trans
        (Cert.KernelIdeal.Cube.outAt_block m g _ _ (fun c => (hm c).1) (fun c => (hm c).2) c),
      (h.1 c (0 : Fin 3)).trans (Cert.KernelIdeal.Cube.finalA_x m g c), (h.1 c (1 : Fin 3)).trans (Cert.KernelIdeal.Cube.finalA_w m g c)⟩)
    (Cert.KernelIdeal.Cube.run_main (F := Ideal) m g),
   (θ_run _ _ _).mono (fun r h => h 0) (Cert.KernelIdeal.Cube.run_reference m' g')⟩

theorem claim : Cert.Claim := ⟨Cert.Kernel.Gen.facts, Cert.KernelIdeal.Gen.facts, Cert.ReferenceIdeal.Gen.facts,
  frame_kernel, frame_ideal, frame_reference, trivial, value⟩

end Cert.Proof

end
